-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_ternary_codes [hPre_ternary_codes : Cert.Pre_ternary_codes.Facts] (m : (ℓ : Loc Cert.KernelIdeal.nD Cert.KernelIdeal.τ Cert.KernelIdeal.sig) → Buf (Elt Ideal) ℓ) : Prop :=
  ∀ c : Dev Cert.KernelIdeal.nD,
    (Cert.Pre_ternary_codes.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_ternary_codes [hPre_ternary_codes : Cert.Pre_ternary_codes.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_ternary_codes.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_ternary_codes [hKernelIdeal : Cert.KernelIdeal.Facts] [hPre_ternary_codes : Cert.Pre_ternary_codes.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_ternary_codes m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_ternary_codes [hReferenceIdeal : Cert.ReferenceIdeal.Facts] [hPre_ternary_codes : Cert.Pre_ternary_codes.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_ternary_codes m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_ternary_codes [hKernelIdeal : Cert.KernelIdeal.Facts] [hReferenceIdeal : Cert.ReferenceIdeal.Facts] [hPre_ternary_codes : Cert.Pre_ternary_codes.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_ternary_codes m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v51) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_ternary_codes : Cert.Pre_ternary_codes.Facts),
    quiescent_Kernel (hKernel := hKernel)
    ∧ quiescent_KernelIdeal (hKernelIdeal := hKernelIdeal)
    ∧ quiescent_KernelIdeal_pre_ternary_codes (hKernelIdeal := hKernelIdeal) (hPre_ternary_codes := hPre_ternary_codes)
    ∧ quiescent_ReferenceIdeal (hReferenceIdeal := hReferenceIdeal)
    ∧ quiescent_ReferenceIdeal_pre_ternary_codes (hReferenceIdeal := hReferenceIdeal) (hPre_ternary_codes := hPre_ternary_codes)
    ∧ preserves_Kernel_KernelIdeal
    ∧ algebraic_KernelIdeal_ReferenceIdeal_pre_ternary_codes (hKernelIdeal := hKernelIdeal) (hReferenceIdeal := hReferenceIdeal) (hPre_ternary_codes := hPre_ternary_codes)
-- ==== Pre_ternary_codes.lean ====
abbrev S192x1x9856 : Shape := ⟨3, ![192, 1, 9856]⟩
abbrev S9856x4256 : Shape := ⟨2, ![9856, 4256]⟩
abbrev S_ : Shape := ⟨0, ![]⟩

class Facts : Prop where
  natLt_8_32 : 8 < 32
  bcast_S_S9856x4256 : S_.BroadcastsInDim S9856x4256 (![] : Fin 0 → Fin S9856x4256.rank)

variable [Facts]

def fn_part1 {F : FTy → Type} [FloatOps F] (main_v0 : IVec S9856x4256 32) (main_v6 : IVec S9856x4256 1) (main_v12 : IVec S9856x4256 1) (main_v14 : IVec S9856x4256 32) (main_v15 : IVec S9856x4256 32) : IVec S9856x4256 1 :=
  let main_v16 : IVec S9856x4256 32 := andi main_v14 main_v15
  let main_c_7 : IVec S_ 32 := constantI S_ 32 3#32
  let main_v17 : IVec S9856x4256 32 := broadcastInDim S9856x4256 ![] bcast_S_S9856x4256 main_c_7
  let main_v18 : IVec S9856x4256 1 := cmpi .ult main_v16 main_v17
  let main_c_8 : IVec S_ 32 := constantI S_ 32 6#32
  let main_v19 : IVec S9856x4256 32 := broadcastInDim S9856x4256 ![] bcast_S_S9856x4256 main_c_8
  let main_v20 : IVec S9856x4256 32 := Host.shrui main_v0 main_v19
  let main_c_9 : IVec S_ 32 := constantI S_ 32 3#32
  let main_v21 : IVec S9856x4256 32 := broadcastInDim S9856x4256 ![] bcast_S_S9856x4256 main_c_9
  let main_v22 : IVec S9856x4256 32 := andi main_v20 main_v21
  let main_c_10 : IVec S_ 32 := constantI S_ 32 3#32
  let main_v23 : IVec S9856x4256 32 := broadcastInDim S9856x4256 ![] bcast_S_S9856x4256 main_c_10
  let main_v24 : IVec S9856x4256 1 := cmpi .ult main_v22 main_v23
  let main_v25 : IVec S9856x4256 1 := andi main_v6 main_v12
  let main_v26 : IVec S9856x4256 1 := andi main_v25 main_v18
  let main_v27 : IVec S9856x4256 1 := andi main_v26 main_v24
  main_v27

def fn {F : FTy → Type} [FloatOps F] (main_arg0 : FVec F S192x1x9856 .bf16) (main_arg1 : IVec S9856x4256 8) (main_arg2 : FVec F S_ .f32) : IVec S9856x4256 1 :=
  let main_v0 : IVec S9856x4256 32 := (extui 32 · natLt_8_32) main_arg1
  let main_c : IVec S_ 32 := constantI S_ 32 0#32
  let main_v1 : IVec S9856x4256 32 := broadcastInDim S9856x4256 ![] bcast_S_S9856x4256 main_c
  let main_v2 : IVec S9856x4256 32 := Host.shrui main_v0 main_v1
  let main_c_0 : IVec S_ 32 := constantI S_ 32 3#32
  let main_v3 : IVec S9856x4256 32 := broadcastInDim S9856x4256 ![] bcast_S_S9856x4256 main_c_0
  let main_v4 : IVec S9856x4256 32 := andi main_v2 main_v3
  let main_c_1 : IVec S_ 32 := constantI S_ 32 3#32
  let main_v5 : IVec S9856x4256 32 := broadcastInDim S9856x4256 ![] bcast_S_S9856x4256 main_c_1
  let main_v6 : IVec S9856x4256 1 := cmpi .ult main_v4 main_v5
  let main_c_2 : IVec S_ 32 := constantI S_ 32 2#32
  let main_v7 : IVec S9856x4256 32 := broadcastInDim S9856x4256 ![] bcast_S_S9856x4256 main_c_2
  let main_v8 : IVec S9856x4256 32 := Host.shrui main_v0 main_v7
  let main_c_3 : IVec S_ 32 := constantI S_ 32 3#32
  let main_v9 : IVec S9856x4256 32 := broadcastInDim S9856x4256 ![] bcast_S_S9856x4256 main_c_3
  let main_v10 : IVec S9856x4256 32 := andi main_v8 main_v9
  let main_c_4 : IVec S_ 32 := constantI S_ 32 3#32
  let main_v11 : IVec S9856x4256 32 := broadcastInDim S9856x4256 ![] bcast_S_S9856x4256 main_c_4
  let main_v12 : IVec S9856x4256 1 := cmpi .ult main_v10 main_v11
  let main_c_5 : IVec S_ 32 := constantI S_ 32 4#32
  let main_v13 : IVec S9856x4256 32 := broadcastInDim S9856x4256 ![] bcast_S_S9856x4256 main_c_5
  let main_v14 : IVec S9856x4256 32 := Host.shrui main_v0 main_v13
  let main_c_6 : IVec S_ 32 := constantI S_ 32 3#32
  let main_v15 : IVec S9856x4256 32 := broadcastInDim S9856x4256 ![] bcast_S_S9856x4256 main_c_6
  fn_part1 (F := F) main_v0 main_v6 main_v12 main_v14 main_v15
-- ==== Kernel.lean ====
abbrev S192x1x9856 : Shape := ⟨3, ![192, 1, 9856]⟩
abbrev S9856x4256 : Shape := ⟨2, ![9856, 4256]⟩
abbrev S_ : Shape := ⟨0, ![]⟩
abbrev S1 : Shape := ⟨1, ![1]⟩
abbrev S192x9856 : Shape := ⟨2, ![192, 9856]⟩
abbrev S192x17024 : Shape := ⟨2, ![192, 17024]⟩
abbrev S9856x128 : Shape := ⟨2, ![9856, 128]⟩
abbrev S192x512 : Shape := ⟨2, ![192, 512]⟩
abbrev S192x9984 : Shape := ⟨2, ![192, 9984]⟩
abbrev S192x128 : Shape := ⟨2, ![192, 128]⟩
abbrev S192x128x1 : Shape := ⟨3, ![192, 128, 1]⟩
abbrev S192x256 : Shape := ⟨2, ![192, 256]⟩
abbrev S256x128 : Shape := ⟨2, ![256, 128]⟩
abbrev S64x128 : Shape := ⟨2, ![64, 128]⟩
abbrev S128x128 : Shape := ⟨2, ![128, 128]⟩
abbrev S256x256 : Shape := ⟨2, ![256, 256]⟩
abbrev S32x128 : Shape := ⟨2, ![32, 128]⟩
abbrev S128x256 : Shape := ⟨2, ![128, 256]⟩

abbrev nBuf : Space → Nat
  | .hbm => 6
  | .vmem => 6
  | .smem => 1
  | _ => 0

abbrev bufTy : (tb : Table) → Fin (tcTables nBuf tb) → BufTy
  | .hbm, ⟨0, _⟩ => ⟨S192x1x9856, .bf16⟩
  | .hbm, ⟨1, _⟩ => ⟨S9856x4256, .i8⟩
  | .hbm, ⟨2, _⟩ => ⟨S_, .f32⟩
  | .hbm, ⟨3, _⟩ => ⟨S1, .f32⟩
  | .hbm, ⟨4, _⟩ => ⟨S192x9856, .bf16⟩
  | .hbm, ⟨5, _⟩ => ⟨S192x17024, .bf16⟩
  | .local _ .vmem, ⟨0, _⟩ => ⟨S192x9856, .bf16⟩
  | .local _ .vmem, ⟨1, _⟩ => ⟨S9856x128, .i8⟩
  | .local _ .vmem, ⟨2, _⟩ => ⟨S9856x128, .i8⟩
  | .local _ .vmem, ⟨3, _⟩ => ⟨S192x512, .bf16⟩
  | .local _ .vmem, ⟨4, _⟩ => ⟨S192x512, .bf16⟩
  | .local _ .vmem, ⟨5, _⟩ => ⟨S192x9984, .bf16⟩
  | .local _ .smem, ⟨0, _⟩ => ⟨S1, .f32⟩
  | _, _ => ⟨S192x1x9856, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .smem, ⟨0, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_scratch0 : Ref sig .tc := ⟨.vmem, 5, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![34], ![false]⟩

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .smem S1 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S192x9856 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S9856x128 .i8 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S192x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S192x1x9856 : Shape := ⟨3, ![192, 1, 9856]⟩
abbrev S9856x4256 : Shape := ⟨2, ![9856, 4256]⟩
abbrev S_ : Shape := ⟨0, ![]⟩
abbrev S192x1x4256 : Shape := ⟨3, ![192, 1, 4256]⟩
abbrev S192x1x4256x1 : Shape := ⟨4, ![192, 1, 4256, 1]⟩
abbrev S192x1x4256x4 : Shape := ⟨4, ![192, 1, 4256, 4]⟩
abbrev S192x1x17024 : Shape := ⟨3, ![192, 1, 17024]⟩
abbrev S192x17024 : Shape := ⟨2, ![192, 17024]⟩

abbrev nBuf : Space → Nat
  | .hbm => 67
  | .vmem => 0
  | .smem => 0
  | _ => 0

abbrev bufTy : (tb : Table) → Fin (tcTables nBuf tb) → BufTy
  | .hbm, ⟨0, _⟩ => ⟨S192x1x9856, .bf16⟩
  | .hbm, ⟨1, _⟩ => ⟨S9856x4256, .i8⟩
  | .hbm, ⟨2, _⟩ => ⟨S_, .f32⟩
  | .hbm, ⟨3, _⟩ => ⟨S9856x4256, .i32⟩
  | .hbm, ⟨4, _⟩ => ⟨S_, .i32⟩
  | .hbm, ⟨5, _⟩ => ⟨S9856x4256, .i32⟩
  | .hbm, ⟨6, _⟩ => ⟨S9856x4256, .i32⟩
  | .hbm, ⟨7, _⟩ => ⟨S_, .i32⟩
  | .hbm, ⟨8, _⟩ => ⟨S9856x4256, .i32⟩
  | .hbm, ⟨9, _⟩ => ⟨S9856x4256, .i32⟩
  | .hbm, ⟨10, _⟩ => ⟨S9856x4256, .bf16⟩
  | .hbm, ⟨11, _⟩ => ⟨S_, .bf16⟩
  | .hbm, ⟨12, _⟩ => ⟨S9856x4256, .bf16⟩
  | .hbm, ⟨13, _⟩ => ⟨S9856x4256, .bf16⟩
  | .hbm, ⟨14, _⟩ => ⟨S192x1x4256, .f32⟩
  | .hbm, ⟨15, _⟩ => ⟨S192x1x4256, .f32⟩
  | .hbm, ⟨16, _⟩ => ⟨S192x1x4256, .f32⟩
  | .hbm, ⟨17, _⟩ => ⟨S9856x4256, .i32⟩
  | .hbm, ⟨18, _⟩ => ⟨S_, .i32⟩
  | .hbm, ⟨19, _⟩ => ⟨S9856x4256, .i32⟩
  | .hbm, ⟨20, _⟩ => ⟨S9856x4256, .i32⟩
  | .hbm, ⟨21, _⟩ => ⟨S_, .i32⟩
  | .hbm, ⟨22, _⟩ => ⟨S9856x4256, .i32⟩
  | .hbm, ⟨23, _⟩ => ⟨S9856x4256, .i32⟩
  | .hbm, ⟨24, _⟩ => ⟨S9856x4256, .bf16⟩
  | .hbm, ⟨25, _⟩ => ⟨S_, .bf16⟩
  | .hbm, ⟨26, _⟩ => ⟨S9856x4256, .bf16⟩
  | .hbm, ⟨27, _⟩ => ⟨S9856x4256, .bf16⟩
  | .hbm, ⟨28, _⟩ => ⟨S192x1x4256, .f32⟩
  | .hbm, ⟨29, _⟩ => ⟨S192x1x4256, .f32⟩
  | .hbm, ⟨30, _⟩ => ⟨S192x1x4256, .f32⟩
  | .hbm, ⟨31, _⟩ => ⟨S9856x4256, .i32⟩
  | .hbm, ⟨32, _⟩ => ⟨S_, .i32⟩
  | .hbm, ⟨33, _⟩ => ⟨S9856x4256, .i32⟩
  | .hbm, ⟨34, _⟩ => ⟨S9856x4256, .i32⟩
  | .hbm, ⟨35, _⟩ => ⟨S_, .i32⟩
  | .hbm, ⟨36, _⟩ => ⟨S9856x4256, .i32⟩
  | .hbm, ⟨37, _⟩ => ⟨S9856x4256, .i32⟩
  | .hbm, ⟨38, _⟩ => ⟨S9856x4256, .bf16⟩
  | .hbm, ⟨39, _⟩ => ⟨S_, .bf16⟩
  | .hbm, ⟨40, _⟩ => ⟨S9856x4256, .bf16⟩
  | .hbm, ⟨41, _⟩ => ⟨S9856x4256, .bf16⟩
  | .hbm, ⟨42, _⟩ => ⟨S192x1x4256, .f32⟩
  | .hbm, ⟨43, _⟩ => ⟨S192x1x4256, .f32⟩
  | .hbm, ⟨44, _⟩ => ⟨S192x1x4256, .f32⟩
  | .hbm, ⟨45, _⟩ => ⟨S9856x4256, .i32⟩
  | .hbm, ⟨46, _⟩ => ⟨S_, .i32⟩
  | .hbm, ⟨47, _⟩ => ⟨S9856x4256, .i32⟩
  | .hbm, ⟨48, _⟩ => ⟨S9856x4256, .i32⟩
  | .hbm, ⟨49, _⟩ => ⟨S_, .i32⟩
  | .hbm, ⟨50, _⟩ => ⟨S9856x4256, .i32⟩
  | .hbm, ⟨51, _⟩ => ⟨S9856x4256, .i32⟩
  | .hbm, ⟨52, _⟩ => ⟨S9856x4256, .bf16⟩
  | .hbm, ⟨53, _⟩ => ⟨S_, .bf16⟩
  | .hbm, ⟨54, _⟩ => ⟨S9856x4256, .bf16⟩
  | .hbm, ⟨55, _⟩ => ⟨S9856x4256, .bf16⟩
  | .hbm, ⟨56, _⟩ => ⟨S192x1x4256, .f32⟩
  | .hbm, ⟨57, _⟩ => ⟨S192x1x4256, .f32⟩
  | .hbm, ⟨58, _⟩ => ⟨S192x1x4256, .f32⟩
  | .hbm, ⟨59, _⟩ => ⟨S192x1x4256x1, .f32⟩
  | .hbm, ⟨60, _⟩ => ⟨S192x1x4256x1, .f32⟩
  | .hbm, ⟨61, _⟩ => ⟨S192x1x4256x1, .f32⟩
  | .hbm, ⟨62, _⟩ => ⟨S192x1x4256x1, .f32⟩
  | .hbm, ⟨63, _⟩ => ⟨S192x1x4256x4, .f32⟩
  | .hbm, ⟨64, _⟩ => ⟨S192x1x17024, .f32⟩
  | .hbm, ⟨65, _⟩ => ⟨S192x1x17024, .bf16⟩
  | .hbm, ⟨66, _⟩ => ⟨S192x17024, .bf16⟩
  | _, _ => ⟨S192x1x9856, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_c_1 : Ref sig .tc := ⟨.hbm, 18, rfl⟩
abbrev main_v12 : Ref sig .tc := ⟨.hbm, 19, rfl⟩
abbrev main_v13 : Ref sig .tc := ⟨.hbm, 20, rfl⟩
abbrev main_c_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_c_4 : Ref sig .tc := ⟨.hbm, 32, rfl⟩
abbrev main_v23 : Ref sig .tc := ⟨.hbm, 33, rfl⟩
abbrev main_v24 : Ref sig .tc := ⟨.hbm, 34, rfl⟩
abbrev main_c_5 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_c_7 : Ref sig .tc := ⟨.hbm, 46, rfl⟩
abbrev main_v34 : Ref sig .tc := ⟨.hbm, 47, rfl⟩
abbrev main_v35 : Ref sig .tc := ⟨.hbm, 48, rfl⟩
abbrev main_c_8 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_cst_9 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩

abbrev nD : Nat := 1
abbrev τ : Topo := Topo.v7x

variable {F : FTy → Type} [FloatOps F]
-- ==== Proof.BitsBody.lean ====
module

public import proofs.«01_k».proof.Proof.Gen.Kernel.Frame
public import Idealize.ShloMosaic.Lib.Mxu.Lemmas
public import Idealize.ShloMosaic.Lib.Mxu.PassChain
public import Idealize.ShloMosaic.Lib.Pipeline.Regions

/-! The kernel's body written over the group number: the permutation of the activations group by group, the
    products group by group, the output tile by tile; and that the printed body is this program. -/

@[expose] public section

set_option maxRecDepth 16384

noncomputable section

namespace Cert.Kernel.Gen

open Idealize.ShloMosaic Idealize.ShloMosaic.TcCoe Idealize.SL.Sem
open Cert.Kernel.Facts₀ Cert.Kernel.Facts

variable {F : FTy → Type} [FloatOps F]

/-! ## Rectangles at a symbolic group -/

/-- 128 columns of the activations from a column `o`. -/
theorem inbX {o : Nat} (h : o + 128 ≤ 9856) : ∀ a, (![0, o] : Fin 2 → Nat) a + S192x128.size a ≤ S192x9856.size a
  | 0 => Nat.le_refl 192
  | 1 => h

/-- 128 columns of the scratch from a column `o`. -/
theorem inbP {o : Nat} (h : o + 128 ≤ 9984) : ∀ a, (![0, o] : Fin 2 → Nat) a + S192x128.size a ≤ S192x9984.size a
  | 0 => Nat.le_refl 192
  | 1 => h

/-- 256 columns of the scratch from a column `o`. -/
theorem inbQ {o : Nat} (h : o + 256 ≤ 9984) : ∀ a, (![0, o] : Fin 2 → Nat) a + S192x256.size a ≤ S192x9984.size a
  | 0 => Nat.le_refl 192
  | 1 => h

/-- 256 rows of the weight block from a row `o`. -/
theorem inbW {o : Nat} (h : o + 256 ≤ 9856) : ∀ a, (![o, 0] : Fin 2 → Nat) a + S256x128.size a ≤ S9856x128.size a
  | 0 => h
  | 1 => Nat.le_refl 128

/-- 128 columns of the output block from a column `o`. -/
theorem inbO {o : Nat} (h : o + 128 ≤ 512) : ∀ a, (![0, o] : Fin 2 → Nat) a + S192x128.size a ≤ S192x512.size a
  | 0 => Nat.le_refl 192
  | 1 => h

/-- A column slab of the scratch holds whole packed rows. -/
theorem packedP {o : Nat} (h : o + 128 ≤ 9984) :
    (Rect.unit (s := S192x9984) ![0, o] S192x128.size (inbP h)).PackedRows (EltTy.packing .bf16) :=
  .inr ⟨by decide, by rfl, .inl ⟨⟨0, by rfl⟩, ⟨96, by rfl⟩⟩⟩

/-- A column slab of the output block holds whole packed rows. -/
theorem packedO {o : Nat} (h : o + 128 ≤ 512) :
    (Rect.unit (s := S192x512) ![0, o] S192x128.size (inbO h)).PackedRows (EltTy.packing .bf16) :=
  .inr ⟨by decide, by rfl, .inl ⟨⟨0, by rfl⟩, ⟨96, by rfl⟩⟩⟩

/-! ## The values the body computes -/

/-- The lane number. -/
def laneV : IVec S192x128 32 := iota .tc S192x128 32 [1] iota_S192x128_d1_w32

/-- The remainder of `v` by `d`, of the divisor's sign (the divisor 0 read as 1). -/
def modV (v : IVec S192x128 32) (d : BitVec 32) : IVec S192x128 32 :=
  let d' : BitVec 32 := Scalar.select (Scalar.cmpi .eq d 0#32) 1#32 d
  let r := remsi v (broadcast S192x128 d')
  select (andi (xori (cmpi .slt r (broadcast S192x128 0#32)) (broadcastTo S192x128 (broadcast S192x128 (Scalar.cmpi .slt d' 0#32)) broadcasts_S192x128_S192x128)) (cmpi .ne r (broadcast S192x128 0#32)))
    (addi r (broadcast S192x128 d')) r

/-- Twice the lane number, modulo 128. -/
def twiceV : IVec S192x128 32 := modV (muli laneV (broadcast S192x128 2#32)) 128#32

/-- The lanes of the low half. -/
def lowV : IVec S192x128 1 := cmpi .slt laneV (broadcast S192x128 64#32)

/-- A lane index, a negative one counted from the end. -/
def wrapV (v : IVec S192x128 32) : IVec S192x128 32 :=
  shapeCast S192x128 (shapeCast S192x128x1 (select (cmpi .slt v (broadcast S192x128 0#32)) (addi v (broadcast S192x128 128#32)) v) shapeCasts_S192x128_S192x128x1) shapeCasts_S192x128x1_S192x128

/-- A loaded slab of activations, widened. -/
def wideV (a : Vec F S192x128 .bf16) : FVec F S192x128 .f32 :=
  extf .f32 (shapeCast S192x128 (a : FVec F S192x128 .bf16) shapeCasts_S192x128_S192x128) bitsLt_bf16_f32

/-- The columns of parity `o` of a group's two slabs. -/
def permV (o : BitVec 32) (a b : Vec F S192x128 .bf16) : FVec F S192x128 .bf16 :=
  shapeCast S192x128
    (truncf .bf16 (select lowV (dynamicGather 1 (wideV a) (wrapV (addi twiceV (broadcast S192x128 o)))) (dynamicGather 1 (wideV b) (wrapV (addi twiceV (broadcast S192x128 o))))) bitsLt_bf16_f32 : FVec F S192x128 .bf16)
    shapeCasts_S192x128_S192x128

/-- The last slab's columns, the even ones in the low half of the lanes and the odd ones in the high half. -/
def permTailV (a : Vec F S192x128 .bf16) : FVec F S192x128 .bf16 :=
  shapeCast S192x128
    (truncf .bf16 (dynamicGather 1 (wideV a) (wrapV (select lowV twiceV (addi twiceV (broadcast S192x128 1#32))))) bitsLt_bf16_f32 : FVec F S192x128 .bf16)
    shapeCasts_S192x128_S192x128

/-- A slab of zeros. -/
def zerosV : FVec F S192x128 .bf16 :=
  shapeCast S192x128 (broadcast S192x128 (Scalar.ofBits .bf16 0x0000#16 : F .bf16) : FVec F S192x128 .bf16) shapeCasts_S192x128_S192x128

/-- The complement of a group's weight codes, four rows to a word. -/
def codesV (w : Vec F S256x128 .i8) : IVec S64x128 32 :=
  xori (bitcast S64x128 32 w bitcasts_S256x128_w8_S64x128_w32) (constantI S64x128 32 4294967295#32)

/-- The top two bits of each half word, read as a 16-bit float. -/
def tileV (v : IVec S64x128 32) : FVec F S128x128 .bf16 :=
  bitcastToFloat .bf16 (bitcast S128x128 16 (andi v (broadcast S64x128 3221274624#32)) bitcasts_S64x128_w32_S128x128_w16)

/-- A field's weights of a group: the even rows, then the odd rows. -/
def colV (a b : IVec S64x128 32) : FVec F S256x128 .bf16 :=
  concatenate S256x128 0 [⟨S128x128, tileV a⟩, ⟨S128x128, tileV b⟩] concatenates_S128x128_S128x128_S256x128_d0

/-- A group's codes shifted up. -/
def shlV (v : IVec S64x128 32) (s : BitVec 32) : IVec S64x128 32 := shli v (broadcast S64x128 s)

/-- The tile of fields 0 and 1 of a group. -/
def rhs0V (w : Vec F S256x128 .i8) : FVec F S256x256 .bf16 :=
  concatenate S256x256 1 [⟨S256x128, colV (shlV (codesV w) 14#32) (shlV (codesV w) 6#32)⟩, ⟨S256x128, colV (shlV (codesV w) 12#32) (shlV (codesV w) 4#32)⟩] concatenates_S256x128_S256x128_S256x256_d1

/-- The tile of fields 2 and 3 of a group. -/
def rhs1V (w : Vec F S256x128 .i8) : FVec F S256x256 .bf16 :=
  concatenate S256x256 1 [⟨S256x128, colV (shlV (codesV w) 10#32) (shlV (codesV w) 2#32)⟩, ⟨S256x128, colV (shlV (codesV w) 8#32) (codesV w)⟩] concatenates_S256x128_S256x128_S256x256_d1

/-- The complement of the last group's weight codes. -/
def codesTV (w : Vec F S128x128 .i8) : IVec S32x128 32 :=
  xori (bitcast S32x128 32 w bitcasts_S128x128_w8_S32x128_w32) (constantI S32x128 32 4294967295#32)

/-- The top two bits of each half word of the last group. -/
def tileTV (v : IVec S32x128 32) : FVec F S64x128 .bf16 :=
  bitcastToFloat .bf16 (bitcast S64x128 16 (andi v (broadcast S32x128 3221274624#32)) bitcasts_S32x128_w32_S64x128_w16)

/-- A field's weights of the last group. -/
def colTV (a b : IVec S32x128 32) : FVec F S128x128 .bf16 :=
  concatenate S128x128 0 [⟨S64x128, tileTV a⟩, ⟨S64x128, tileTV b⟩] concatenates_S64x128_S64x128_S128x128_d0

/-- The last group's codes shifted up. -/
def shlTV (v : IVec S32x128 32) (s : BitVec 32) : IVec S32x128 32 := shli v (broadcast S32x128 s)

/-- Half a tile filled up with zero rows. -/
def padV (v : FVec F S128x256 .bf16) : FVec F S256x256 .bf16 :=
  concatenate S256x256 0 [⟨S128x256, v⟩, ⟨S128x256, broadcast S128x256 (Scalar.ofBits .bf16 0x0000#16 : F .bf16)⟩] concatenates_S128x256_S128x256_S256x256_d0

/-- The tile of fields 0 and 1 of the last group. -/
def rhs0TV (w : Vec F S128x128 .i8) : FVec F S256x256 .bf16 :=
  padV (concatenate S128x256 1 [⟨S128x128, colTV (shlTV (codesTV w) 14#32) (shlTV (codesTV w) 6#32)⟩, ⟨S128x128, colTV (shlTV (codesTV w) 12#32) (shlTV (codesTV w) 4#32)⟩] concatenates_S128x128_S128x128_S128x256_d1)

/-- The tile of fields 2 and 3 of the last group. -/
def rhs1TV (w : Vec F S128x128 .i8) : FVec F S256x256 .bf16 :=
  padV (concatenate S128x256 1 [⟨S128x128, colTV (shlTV (codesTV w) 10#32) (shlTV (codesTV w) 2#32)⟩, ⟨S128x128, colTV (shlTV (codesTV w) 8#32) (codesTV w)⟩] concatenates_S128x128_S128x128_S128x256_d1)

/-- One accumulator scaled and narrowed. -/
def scaledV (s : F .f32) (a : FVec F S192x256 .f32) : FVec F S192x256 .bf16 :=
  truncf .bf16 (mulf a (broadcast S192x256 (Scalar.mulf s (Scalar.ofBits .f32 0x3F000000#32)))) bitsLt_bf16_f32

/-- Its left 128 columns, widened. -/
def leftV (a : FVec F S192x256 .bf16) : FVec F S192x128 .f32 :=
  extf .f32 (extractStridedSlice S192x128 ![0, 0] a slices_S192x256_o0_0_S192x128) bitsLt_bf16_f32

/-- Its right 128 columns, widened. -/
def rightV (a : FVec F S192x256 .bf16) : FVec F S192x128 .f32 :=
  extf .f32 (extractStridedSlice S192x128 ![0, 128] a slices_S192x256_o0_128_S192x128) bitsLt_bf16_f32

/-- The lane number over four, rounded down. -/
def quartV : IVec S192x128 32 :=
  let q := divsi laneV (broadcast S192x128 4#32)
  select (andi (cmpi .ne (subi (extui 32 (cmpi .sgt laneV (broadcast S192x128 0#32)) natLt_1_32) (extui 32 (cmpi .slt laneV (broadcast S192x128 0#32)) natLt_1_32))
        (broadcast S192x128 (Scalar.subi (Scalar.extui (Scalar.cmpi .sgt 4#32 0#32)) (Scalar.extui (Scalar.cmpi .slt 4#32 0#32)))))
      (cmpi .ne (remsi laneV (broadcast S192x128 4#32)) (broadcast S192x128 0#32)))
    (subi q (broadcast S192x128 1#32)) q

/-- The lane number modulo four. -/
def whichV : IVec S192x128 32 := modV laneV 4#32

/-- An output tile: lane `l` is the field `l % 4` at column `l / 4` past `o`. -/
def outV (o : BitVec 32) (f0 f1 f2 f3 : FVec F S192x128 .f32) : FVec F S192x128 .bf16 :=
  truncf .bf16
    (select (cmpi .eq whichV (broadcast S192x128 0#32)) (dynamicGather 1 f0 (wrapV (addi quartV (broadcast S192x128 o))))
      (select (cmpi .eq whichV (broadcast S192x128 1#32)) (dynamicGather 1 f1 (wrapV (addi quartV (broadcast S192x128 o))))
        (select (cmpi .eq whichV (broadcast S192x128 2#32)) (dynamicGather 1 f2 (wrapV (addi quartV (broadcast S192x128 o))))
          (dynamicGather 1 f3 (wrapV (addi quartV (broadcast S192x128 o))))))) bitsLt_bf16_f32

/-! ## The program -/

section Prog

variable (arg1 : Memref sig .tc .smem S1 .f32) (arg2 : Memref sig .tc .vmem S192x9856 .bf16) (arg3 : Memref sig .tc .vmem S9856x128 .i8)
  (arg4 : Memref sig .tc .vmem S192x512 .bf16) (harg4 : arg4.IsWhole) (arg5 : Memref sig .tc .vmem S192x9984 .bf16) (harg5 : arg5.IsWhole)

/-- Load 128 columns of the activations. -/
def ldX (o : Nat) (h : o + 128 ≤ 9856) : Prog (TpuEff nD τ sig (Elt F) Λ₀ .tc) (Vec F S192x128 .bf16) :=
  Prog.lift (.load arg2 (Rect.unit (s := S192x9856) ![0, o] S192x128.size (inbX h)).toLoadRect (View.loadsAt_vmem h_S192x128))

/-- Store 128 columns of the scratch, loading them first. -/
def stP (o : Nat) (h : o + 128 ≤ 9984) (v : FVec F S192x128 .bf16) : Prog (TpuEff nD τ sig (Elt F) Λ₀ .tc) PUnit := do
  let _ : Vec F S192x128 .bf16 ← Prog.lift (.load arg5 (Rect.unit (s := S192x9984) ![0, o] S192x128.size (inbP h)).toLoadRect (View.loadsAt_vmem h_S192x128))
  Prog.lift (.store arg5 (Rect.unit (s := S192x9984) ![0, o] S192x128.size (inbP h)) v Finset.univ (View.stores_vmem h_S192x128 (harg5.storeExact_slice rfl _ (packedP h)) (fun _ => rfl)) (.inl rfl))

/-- Store 128 columns of the output block, loading them first. -/
def stO (o : Nat) (h : o + 128 ≤ 512) (v : FVec F S192x128 .bf16) : Prog (TpuEff nD τ sig (Elt F) Λ₀ .tc) PUnit := do
  let _ : Vec F S192x128 .bf16 ← Prog.lift (.load arg4 (Rect.unit (s := S192x512) ![0, o] S192x128.size (inbO h)).toLoadRect (View.loadsAt_vmem h_S192x128))
  Prog.lift (.store arg4 (Rect.unit (s := S192x512) ![0, o] S192x128.size (inbO h)) v Finset.univ (View.stores_vmem h_S192x128 (harg4.storeExact_slice rfl _ (packedO h)) (fun _ => rfl)) (.inl rfl))

/-- Permute one group of 256 columns. -/
def permStep (g : Nat) (h : g < 38) : Prog (TpuEff nD τ sig (Elt F) Λ₀ .tc) PUnit := do
  let a ← ldX arg2 (256 * g) (by omega)
  let b ← ldX arg2 (256 * g + 128) (by omega)
  stP arg5 harg5 (256 * g) (by omega) (permV 0#32 a b)
  stP arg5 harg5 (256 * g + 128) (by omega) (permV 1#32 a b)

/-- Permute `n` groups from group `g`. -/
def permSteps : (n g : Nat) → g + n ≤ 38 → Prog (TpuEff nD τ sig (Elt F) Λ₀ .tc) PUnit
  | 0, _, _ => pure ⟨⟩
  | n + 1, g, h => do
    permStep arg2 arg5 harg5 g (by omega)
    permSteps n (g + 1) (by omega)

/-- Permute the whole of the activations into the scratch. -/
def permAll : Prog (TpuEff nD τ sig (Elt F) Λ₀ .tc) PUnit := do
  permSteps arg2 arg5 harg5 38 0 (by omega)
  let a ← ldX arg2 9728 (by omega)
  stP arg5 harg5 9728 (by omega) (permTailV a)
  stP arg5 harg5 9856 (by omega) zerosV

/-- The products of one group: a pass on each of the two units. -/
def groupStep (g : Nat) (h : g < 38) (u : Mxu F) : Prog (TpuEff nD τ sig (Elt F) Λ₀ .tc) (Mxu F) := do
  let w : Vec F S256x128 .i8 ← Prog.lift (.load arg3 (Rect.unit (s := S9856x128) ![256 * g, 0] S256x128.size (inbW (by omega))).toLoadRect (View.loadsAt_vmem h_S256x128))
  let x : Vec F S192x256 .bf16 ← Prog.lift (.load arg5 (Rect.unit (s := S192x9984) ![0, 256 * g] S192x256.size (inbQ (by omega))).toLoadRect (View.loadsAt_vmem h_S192x256))
  let u1 ← u.pushRhs 0 (Fin.ofNat 2 g) false (rhs0V w)
  let u2 ← (u1.accLhs 0 (Fin.ofNat 2 g) 0 (x : FVec F S192x256 .bf16) fits_0_192).pushRhs 1 (Fin.ofNat 2 g) false (rhs1V w)
  pure (u2.accLhs 1 (Fin.ofNat 2 g) 0 (x : FVec F S192x256 .bf16) fits_0_192)

/-- The products of `n` groups from group `g`. -/
def groupSteps : (n g : Nat) → g + n ≤ 38 → Mxu F → Prog (TpuEff nD τ sig (Elt F) Λ₀ .tc) (Mxu F)
  | 0, _, _, u => pure u
  | n + 1, g, h, u => do
    let u' ← groupStep arg3 arg5 g (by omega) u
    groupSteps n (g + 1) (by omega) u'

/-- The products of the last, half group. -/
def groupTail (u : Mxu F) : Prog (TpuEff nD τ sig (Elt F) Λ₀ .tc) (Mxu F) := do
  let w : Vec F S128x128 .i8 ← Prog.lift (.load arg3 (Rect.unit (s := S9856x128) ![9728, 0] S128x128.size inb_S9856x128_S128x128_9728_0).toLoadRect (View.loadsAt_vmem h_S128x128))
  let x : Vec F S192x256 .bf16 ← Prog.lift (.load arg5 (Rect.unit (s := S192x9984) ![0, 9728] S192x256.size (inbQ (by omega))).toLoadRect (View.loadsAt_vmem h_S192x256))
  let u1 ← u.pushRhs 0 0 false (rhs0TV w)
  let u2 ← (u1.accLhs 0 0 0 (x : FVec F S192x256 .bf16) fits_0_192).pushRhs 1 0 false (rhs1TV w)
  pure (u2.accLhs 1 0 0 (x : FVec F S192x256 .bf16) fits_0_192)

/-- Read the accumulators, scale, and store the output block's four tiles. -/
def finish (u : Mxu F) : Prog (TpuEff nD τ sig (Elt F) Λ₀ .tc) PUnit := do
  let s : Elt F .f32 ← smemLoad arg1 (Rect.unit (s := S1) ![0] S1.size inb_S1_S1_0) numel1_S1 rfl
  let p := scaledV (s : F .f32) (u.read 0 0 fits_0_192)
  let u1 := u.pop 0 0 192 fits_0_192
  let q := scaledV (s : F .f32) (u1.read 1 0 fits_0_192)
  let u2 := u1.pop 1 0 192 fits_0_192
  stO arg4 harg4 0 (by omega) (outV 0#32 (leftV p) (rightV p) (leftV q) (rightV q))
  stO arg4 harg4 128 (by omega) (outV 32#32 (leftV p) (rightV p) (leftV q) (rightV q))
  stO arg4 harg4 256 (by omega) (outV 64#32 (leftV p) (rightV p) (leftV q) (rightV q))
  stO arg4 harg4 384 (by omega) (outV 96#32 (leftV p) (rightV p) (leftV q) (rightV q))
  u2.exit
  pure ⟨⟩

/-- Whether this is the first grid point, as the body tests it. -/
def isFirst (i : grid0.Coords) : BitVec 1 :=
  Scalar.cmpi .ne (Scalar.extui (Scalar.cmpi .eq (BitVec.ofNat 32 (i 0).val) 0#32) : BitVec 32) 0#32

/-- The products and the output, from the matrix units' state after `enter`. -/
def rest (u : Mxu F) : Prog (TpuEff nD τ sig (Elt F) Λ₀ .tc) PUnit := do
  let u' ← groupSteps arg3 arg5 38 0 (by omega) u
  let u'' ← groupTail arg3 arg5 u'
  finish arg1 arg4 harg4 u''

end Prog

/-- The first group's weights, the matrix units' state passed on. -/
def window (arg3 : Memref sig .tc .vmem S9856x128 .i8) (u : Mxu F) :
    Prog (TpuEff nD τ sig (Elt F) Λ₀ .tc) (Σ' (_ : Mxu F) (_ : IVec S64x128 32) (_ : FVec F S256x128 .bf16) (_ : FVec F S256x128 .bf16) (_ : FVec F S256x128 .bf16), BitVec 32) := do
  let w : Vec F S256x128 .i8 ← Prog.lift (.load arg3 (Rect.unit (s := S9856x128) ![0, 0] S256x128.size inb_S9856x128_S256x128_0_0).toLoadRect (View.loadsAt_vmem h_S256x128))
  pure ⟨u, codesV w, colV (shlV (codesV w) 14#32) (shlV (codesV w) 6#32), colV (shlV (codesV w) 12#32) (shlV (codesV w) 4#32), colV (shlV (codesV w) 10#32) (shlV (codesV w) 2#32), 8#32⟩

/-- The printed body's first window: at the first grid point the permutation and the pops, then the first group's weights. -/
theorem part52_eq (i : grid0.Coords) (arg1 : Memref sig .tc .smem S1 .f32) (harg1 : arg1.IsWhole)
    (arg2 : Memref sig .tc .vmem S192x9856 .bf16) (harg2 : arg2.IsWhole) (arg3 : Memref sig .tc .vmem S9856x128 .i8) (harg3 : arg3.IsWhole)
    (arg4 : Memref sig .tc .vmem S192x512 .bf16) (harg4 : arg4.IsWhole) (arg5 : Memref sig .tc .vmem S192x9984 .bf16) (harg5 : arg5.IsWhole) :
    k0_part52 (F := F) i arg1 harg1 arg2 harg2 arg3 harg3 arg4 harg4 arg5 harg5
      = if isFirst i = 1#1 then (permAll arg2 arg5 harg5 >>= fun _ => window arg3 ((Mxu.init.pop 0 0 192 fits_0_192).pop 1 0 192 fits_0_192))
        else window arg3 Mxu.init := by
  chain_rfl

/-- At the first grid point the printed body is the permutation, then `rest`. -/
theorem body_first (i : grid0.Coords) (arg1 : Memref sig .tc .smem S1 .f32) (harg1 : arg1.IsWhole)
    (arg2 : Memref sig .tc .vmem S192x9856 .bf16) (harg2 : arg2.IsWhole) (arg3 : Memref sig .tc .vmem S9856x128 .i8) (harg3 : arg3.IsWhole)
    (arg4 : Memref sig .tc .vmem S192x512 .bf16) (harg4 : arg4.IsWhole) (arg5 : Memref sig .tc .vmem S192x9984 .bf16) (harg5 : arg5.IsWhole) (h : isFirst i = 1#1) :
    cc0_ternary_linear (F := F) i arg1 harg1 arg2 harg2 arg3 harg3 arg4 harg4 arg5 harg5
      = (permAll arg2 arg5 harg5 >>= fun _ =>
          rest arg1 arg3 arg4 harg4 arg5 ((Mxu.init.pop 0 0 192 fits_0_192).pop 1 0 192 fits_0_192)) := by
  delta cc0_ternary_linear k0_part104
  rw [part52_eq, if_pos h]
  chain_rfl

/-- At the other grid points it is `rest` alone. -/
theorem body_other (i : grid0.Coords) (arg1 : Memref sig .tc .smem S1 .f32) (harg1 : arg1.IsWhole)
    (arg2 : Memref sig .tc .vmem S192x9856 .bf16) (harg2 : arg2.IsWhole) (arg3 : Memref sig .tc .vmem S9856x128 .i8) (harg3 : arg3.IsWhole)
    (arg4 : Memref sig .tc .vmem S192x512 .bf16) (harg4 : arg4.IsWhole) (arg5 : Memref sig .tc .vmem S192x9984 .bf16) (harg5 : arg5.IsWhole) (h : ¬ isFirst i = 1#1) :
    cc0_ternary_linear (F := F) i arg1 harg1 arg2 harg2 arg3 harg3 arg4 harg4 arg5 harg5
      = rest arg1 arg3 arg4 harg4 arg5 Mxu.init := by
  delta cc0_ternary_linear k0_part104
  rw [part52_eq, if_neg h]
  chain_rfl

end Cert.Kernel.Gen
-- ==== Proof.BitsSteps.lean ====
module

public import proofs.«01_k».proof.Proof.BitsBody

/-! What the body's steps do to the memory they hold, each a rule over `owns`. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

variable {F : FTy → Type} [FloatOps F]

local notation "𝕄" => MT nD τ sig Unit (Elt F) ℕ (UR sig nD τ) ℕ

/-! ## Values over whole buffers -/

/-- 128 columns of the activations from column `o`. -/
def slabX (X : Vec F S192x9856 .bf16) (o : Nat) (h : o + 128 ≤ 9856) : Vec F S192x128 .bf16 :=
  fun i => X ((Rect.unit (s := S192x9856) ![0, o] S192x128.size (inbX h)).toLoadRect.idx i)

/-- 256 columns of the scratch from column `o`. -/
def slabP (P : Vec F S192x9984 .bf16) (o : Nat) (h : o + 256 ≤ 9984) : Vec F S192x256 .bf16 :=
  fun i => P ((Rect.unit (s := S192x9984) ![0, o] S192x256.size (inbQ h)).toLoadRect.idx i)

/-- 256 rows of the weight block from row `o`. -/
def slabW (W : Vec F S9856x128 .i8) (o : Nat) (h : o + 256 ≤ 9856) : Vec F S256x128 .i8 :=
  fun i => W ((Rect.unit (s := S9856x128) ![o, 0] S256x128.size (inbW h)).toLoadRect.idx i)

/-- The last 128 rows of the weight block. -/
def slabWT (W : Vec F S9856x128 .i8) : Vec F S128x128 .i8 :=
  fun i => W ((Rect.unit (s := S9856x128) ![9728, 0] S128x128.size inb_S9856x128_S128x128_9728_0).toLoadRect.idx i)

/-- The permuted activations, column by column. -/
def permX (X : Vec F S192x9856 .bf16) : Vec F S192x9984 .bf16 := fun y =>
  if hj : (y 1).val < 9728 then
    permV (BitVec.ofNat 32 ((y 1).val % 256 / 128))
      (slabX X (256 * ((y 1).val / 256)) (by omega)) (slabX X (256 * ((y 1).val / 256) + 128) (by omega))
      (Mxu.ix (y 0) ⟨(y 1).val % 128, Nat.mod_lt _ (by decide)⟩)
  else if (y 1).val < 9856 then
    permTailV (slabX X 9728 (by omega)) (Mxu.ix (y 0) ⟨(y 1).val % 128, Nat.mod_lt _ (by decide)⟩)
  else zerosV (Mxu.ix (y 0) ⟨(y 1).val % 128, Nat.mod_lt _ (by decide)⟩)

/-- The two passes of a group on the matrix units' state. -/
def mxuStep (W : Vec F S9856x128 .i8) (P : Vec F S192x9984 .bf16) (g : Nat) (h : g < 38) (u : Mxu F) : Mxu F :=
  let u' := Mxu.pushAcc 0 (Fin.ofNat 2 g) false 0 fits_0_192 u (rhs0V (slabW W (256 * g) (by omega))) (slabP P (256 * g) (by omega) : FVec F S192x256 .bf16)
  Mxu.pushAcc 1 (Fin.ofNat 2 g) false 0 fits_0_192 u' (rhs1V (slabW W (256 * g) (by omega))) (slabP P (256 * g) (by omega) : FVec F S192x256 .bf16)

/-- The passes of `n` groups from group `g`. -/
def mxuSteps (W : Vec F S9856x128 .i8) (P : Vec F S192x9984 .bf16) : (n g : Nat) → g + n ≤ 38 → Mxu F → Mxu F
  | 0, _, _, u => u
  | n + 1, g, h, u => mxuSteps W P n (g + 1) (by omega) (mxuStep W P g (by omega) u)

/-- The two passes of the last group. -/
def mxuTail (W : Vec F S9856x128 .i8) (P : Vec F S192x9984 .bf16) (u : Mxu F) : Mxu F :=
  let u' := Mxu.pushAcc 0 0 false 0 fits_0_192 u (rhs0TV (slabWT W)) (slabP P 9728 (by omega) : FVec F S192x256 .bf16)
  Mxu.pushAcc 1 0 false 0 fits_0_192 u' (rhs1TV (slabWT W)) (slabP P 9728 (by omega) : FVec F S192x256 .bf16)

/-- The state of the matrix units after all the passes. -/
def mxuAll (W : Vec F S9856x128 .i8) (P : Vec F S192x9984 .bf16) : Mxu F :=
  mxuTail W P (mxuSteps W P 38 0 (by omega) Mxu.init)

/-- The output block from the two accumulators, column by column. -/
def outBlk (s : F .f32) (a b : FVec F S192x256 .f32) : Vec F S192x512 .bf16 := fun y =>
  outV (BitVec.ofNat 32 (32 * ((y 1).val / 128))) (leftV (scaledV s a)) (rightV (scaledV s a)) (leftV (scaledV s b)) (rightV (scaledV s b))
    (Mxu.ix (y 0) ⟨(y 1).val % 128, Nat.mod_lt _ (by decide)⟩)

/-- No register holds a tile, and the live rows are among the first 192. -/
structure Calm (u : Mxu F) : Prop where
  reg : ∀ q r, u.reg q r = none
  live : ∀ q (R : Fin 1024), 192 ≤ R.val → u.live q R = false

/-- The state the units start in. -/
theorem calm_init : Calm (Mxu.init (F := F)) := ⟨fun _ _ => rfl, fun _ _ _ => rfl⟩

/-- A pass from the register it fills keeps the registers empty. -/
theorem calm_pushAcc {u : Mxu F} (hu : Calm u) (q r : Fin 2) {φ₁ φ₂ : FTy} (v : FVec F (Mxu.STile 256) φ₁) (x : FVec F (Mxu.STile 192) φ₂) :
    Calm (Mxu.pushAcc q r false 0 fits_0_192 u v x) where
  reg q' r' := by
    by_cases hq : q' = q ∧ r' = r
    · obtain ⟨rfl, rfl⟩ := hq
      exact Mxu.reg_pushAcc _ _ _ _ _ _ _ _
    · unfold Mxu.pushAcc
      rw [Mxu.reg_accLhs_ne _ _ _ _ _ _ _ _ hq, Mxu.reg_pushed_ne _ _ _ _ _ _ _ hq, hu.reg]
  live q' R hR := by
    unfold Mxu.pushAcc
    rw [Mxu.live_accLhs, if_neg (by omega), Mxu.live_pushed, hu.live q' R hR]

/-- One group's passes keep the registers empty. -/
theorem calm_mxuStep (W : Vec F S9856x128 .i8) (P : Vec F S192x9984 .bf16) (g : Nat) (h : g < 38) {u : Mxu F} (hu : Calm u) :
    Calm (mxuStep W P g h u) := calm_pushAcc (calm_pushAcc hu _ _ _ _) _ _ _ _

/-- So do those of any number of groups. -/
theorem calm_mxuSteps (W : Vec F S9856x128 .i8) (P : Vec F S192x9984 .bf16) :
    ∀ (n g : Nat) (h : g + n ≤ 38) (u : Mxu F), Calm u → Calm (mxuSteps W P n g h u)
  | 0, _, _, _, hu => hu
  | n + 1, g, h, u, hu => calm_mxuSteps W P n (g + 1) _ _ (calm_mxuStep W P g _ hu)

/-- So do the passes of the last, shorter group. -/
theorem calm_mxuTail (W : Vec F S9856x128 .i8) (P : Vec F S192x9984 .bf16) {u : Mxu F} (hu : Calm u) :
    Calm (mxuTail W P u) := calm_pushAcc (calm_pushAcc hu _ _ _ _) _ _ _ _

/-- Popping both accumulators of a calm state drains it. -/
theorem drained_pops {u : Mxu F} (hu : Calm u) : ((u.pop 0 0 192 fits_0_192).pop 1 0 192 fits_0_192).Drained := by
  refine ⟨fun q r => by show (u.reg q r).isNone = true; rw [hu.reg]; rfl, fun q R => ?_⟩
  rw [Mxu.live_pop, Mxu.live_pop]
  by_cases hR : 192 ≤ R.val
  · rw [hu.live q R hR]; simp
  · have hq : q = 0 ∨ q = 1 := by omega
    rcases hq with rfl | rfl
    · rw [if_neg (fun h => absurd h.1 (by decide)), if_pos (by omega)]
    · rw [if_pos (by omega)]

/-- Popping both accumulators of the initial state changes nothing. -/
theorem pops_init : ((Mxu.init (F := F)).pop 0 0 192 fits_0_192).pop 1 0 192 fits_0_192 = Mxu.init :=
  Mxu.eq_init_of_drained (drained_pops calm_init)

/-! ## Loads and stores -/

section Rules

variable {defs : Defs nD τ sig (Elt F) Λ₀} (c : Dev nD) (E : Set ℕ) {α : Type}

/-- A load from a memref held reads its part of what the memref reads. -/
theorem owns_load {sp : CoreSpace} {sh : Shape} {e : EltTy} {m : Memref sig .tc sp sh e} {r : LoadRect sh} {hl : m.view.LoadsAt r}
    {Q : α → sProp 𝕄} {k : (r.shape.Idx → Elt F e) → Prog (TpuEff nD τ sig (Elt F) Λ₀ .tc) α} {q : PosShare TreeShare} {X : sh.Idx → Elt F e} :
    (owns (c : Thread nD τ) m q X : sProp 𝕄)
      ⊢ iprop((owns (c : Thread nD τ) m q X -∗ wp frame (wpE defs Variants.none c none) E (k fun i => X (r.idx i)) Q)
        -∗ wp frame (wpE defs Variants.none c none) E (.op (.load m r hl) k) Q) := by
  unfold owns
  iintro ⟨%f, %hf, H⟩ K
  subst hf
  ihave H' := (wp_load Variants.none (c : Thread nD τ) none E (m := m) (r := r) (hl := hl) (k := k) (Q := Q) (defs := defs) (View.setOn_subset_set _ _)) $$ H
  iapply H'
  iintro H
  iapply K
  iexists f
  isplitr
  · ipureintro; rfl
  · iexact H

/-- A store to a memref held replaces its rectangle's part. -/
theorem owns_store {sp : CoreSpace} {sh : Shape} {e : EltTy} {m : Memref sig .tc sp sh e} {r : Rect sh} {w : r.shape.Idx → Elt F e}
    {hx : (m.access r).Stores Finset.univ} {hm : (Finset.univ : Finset r.shape.Idx) = Finset.univ ∨ ∀ a, r.stride a = 1}
    {Q : α → sProp 𝕄} {k : PUnit → Prog (TpuEff nD τ sig (Elt F) Λ₀ .tc) α} {X : sh.Idx → Elt F e} :
    (owns (c : Thread nD τ) m fullShare X : sProp 𝕄)
      ⊢ iprop((owns (c : Thread nD τ) m fullShare (r.overlay X w) -∗ wp frame (wpE defs Variants.none c none) E (k ⟨⟩) Q)
        -∗ wp frame (wpE defs Variants.none c none) E (.op (.store m r w Finset.univ hx hm) k) Q) := by
  unfold owns
  iintro ⟨%f, %hf, H⟩ K
  subst hf
  have hread : m.view.read (Elt F) ((m.access r).write (Elt F) f w Finset.univ) = r.overlay (m.view.read (Elt F) f) w := by
    funext y
    by_cases hy : y ∈ r.set
    · obtain ⟨x, rfl⟩ := r.exists_idx_of_mem hy
      exact (View.read_slice_write_emb r f w (Finset.mem_univ x)).trans (Rect.overlay_emb r _ w x).symm
    · rw [Rect.overlay_of_not_mem _ _ _ hy]
      exact View.read_slice_write_of_not_mem r f w Finset.univ (by rw [Rect.map_emb_univ]; exact hy)
  ihave H' := (wp_store Variants.none (c : Thread nD τ) none E (m := m) (r := r) (w := w) (hx := hx) (hm := hm) (k := k) (Q := Q) (defs := defs) (S := m.view.set) (f := f)
    (View.setOn_subset_set _ _ |>.trans (View.set_slice_subset _ _))) $$ H
  iapply H'
  iintro H
  iapply K
  iexists _
  isplitr
  · ipureintro; exact hread
  · iexact H

end Rules

end Cert.Kernel.Gen
-- ==== Proof.BitsRules.lean ====
module

public import proofs.«01_k».proof.Proof.BitsSteps

/-! The rules of the body's steps and of the whole body: the activations permuted at the first grid point, the
    output block written from the accumulators of all the passes. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

variable {F : FTy → Type} [FloatOps F]

local notation "𝕄" => MT nD τ sig Unit (Elt F) ℕ (UR sig nD τ) ℕ

/-! ## Column slabs -/

/-- An index of a column slab, as an index of the whole. -/
theorem emb_col {n : Nat} {o : Nat} {inb : ∀ a, (![0, o] : Fin 2 → Nat) a + S192x128.size a ≤ (⟨2, ![192, n]⟩ : Shape).size a} (x : S192x128.Idx) :
    (((Rect.unit (s := ⟨2, ![192, n]⟩) ![0, o] S192x128.size inb).emb x) 0).val = (x 0).val
      ∧ (((Rect.unit (s := ⟨2, ![192, n]⟩) ![0, o] S192x128.size inb).emb x) 1).val = o + (x 1).val := by
  constructor
  · show 0 + 1 * (x 0).val = (x 0).val; omega
  · show o + 1 * (x 1).val = o + (x 1).val; omega

/-- An index whose column is past the slab's start and not past its end is one of the slab. -/
theorem exists_col {n : Nat} {o : Nat} {inb : ∀ a, (![0, o] : Fin 2 → Nat) a + S192x128.size a ≤ (⟨2, ![192, n]⟩ : Shape).size a}
    (y : (⟨2, ![192, n]⟩ : Shape).Idx) (h1 : o ≤ (y 1).val) (h2 : (y 1).val < o + 128) :
    y = (Rect.unit (s := ⟨2, ![192, n]⟩) ![0, o] S192x128.size inb).emb (Mxu.ix (y 0) ⟨(y 1).val - o, by omega⟩ : S192x128.Idx) := by
  funext a
  match a with
  | 0 => exact Fin.ext (by show (y 0).val = 0 + 1 * (y 0).val; omega)
  | 1 => exact Fin.ext (by show (y 1).val = o + 1 * ((y 1).val - o); omega)

/-- A column slab replaced: the new value in its columns, -/
theorem overlay_in {n : Nat} {α : Type} {o : Nat} {inb : ∀ a, (![0, o] : Fin 2 → Nat) a + S192x128.size a ≤ (⟨2, ![192, n]⟩ : Shape).size a}
    (S : (⟨2, ![192, n]⟩ : Shape).Idx → α) (w : S192x128.Idx → α) (y : (⟨2, ![192, n]⟩ : Shape).Idx) (h1 : o ≤ (y 1).val) (h2 : (y 1).val < o + 128) :
    (Rect.unit (s := ⟨2, ![192, n]⟩) ![0, o] S192x128.size inb).overlay S w y = w (Mxu.ix (y 0) ⟨(y 1).val - o, by omega⟩) := by
  conv_lhs => rw [exists_col (inb := inb) y h1 h2]
  exact Rect.overlay_emb (Rect.unit (s := ⟨2, ![192, n]⟩) ![0, o] S192x128.size inb) S w _

/-- and the old one in the others. -/
theorem overlay_out {n : Nat} {α : Type} {o : Nat} {inb : ∀ a, (![0, o] : Fin 2 → Nat) a + S192x128.size a ≤ (⟨2, ![192, n]⟩ : Shape).size a}
    (S : (⟨2, ![192, n]⟩ : Shape).Idx → α) (w : S192x128.Idx → α) (y : (⟨2, ![192, n]⟩ : Shape).Idx) (h : (y 1).val < o ∨ o + 128 ≤ (y 1).val) :
    (Rect.unit (s := ⟨2, ![192, n]⟩) ![0, o] S192x128.size inb).overlay S w y = S y := by
  refine Rect.overlay_of_not_mem (Rect.unit (s := ⟨2, ![192, n]⟩) ![0, o] S192x128.size inb) S w fun hm => ?_
  obtain ⟨x, rfl⟩ := LoadRect.exists_idx_of_mem _ hm
  have hx : (x 1).val < 128 := (x 1).isLt
  have := (emb_col (inb := inb) x).2
  have e : (((Rect.unit (s := ⟨2, ![192, n]⟩) ![0, o] S192x128.size inb).idx x) 1).val = o + (x 1).val := this
  omega

/-- The first `j` columns of the scratch hold the permuted activations. -/
def PermTo (X : Vec F S192x9856 .bf16) (j : Nat) (S : Vec F S192x9984 .bf16) : Prop :=
  ∀ y : S192x9984.Idx, (y 1).val < j → S y = permX X y

/-- Replacing the next 128 columns by theirs. -/
theorem permTo_overlay {X : Vec F S192x9856 .bf16} {j : Nat} {S : Vec F S192x9984 .bf16} (hS : PermTo X j S) (h : j + 128 ≤ 9984)
    (w : Vec F S192x128 .bf16) (hw : ∀ y : S192x9984.Idx, (h1 : j ≤ (y 1).val) → (h2 : (y 1).val < j + 128) → w (Mxu.ix (y 0) ⟨(y 1).val - j, by omega⟩) = permX X y) :
    PermTo X (j + 128) ((Rect.unit (s := S192x9984) ![0, j] S192x128.size (inbP h)).overlay S w) := by
  intro y hy
  by_cases h1 : j ≤ (y 1).val
  · exact (overlay_in (inb := inbP h) S w y h1 hy).trans (hw y h1 hy)
  · exact (overlay_out (inb := inbP h) S w y (.inl (by omega))).trans (hS y (by omega))

/-- A group's two slabs are the permuted activations' columns there. -/
theorem permV_eq (X : Vec F S192x9856 .bf16) (g : Nat) (h : g < 38) (o : Nat) (ho : o < 2) (y : S192x9984.Idx)
    (h1 : 256 * g + 128 * o ≤ (y 1).val) (h2 : (y 1).val < 256 * g + 128 * o + 128) :
    permV (BitVec.ofNat 32 o) (slabX X (256 * g) (by omega)) (slabX X (256 * g + 128) (by omega)) (Mxu.ix (y 0) ⟨(y 1).val - (256 * g + 128 * o), by omega⟩)
      = permX X y := by
  obtain rfl : (y 1).val / 256 = g := by omega
  obtain rfl : (y 1).val % 256 / 128 = o := by omega
  have e3 : (y 1).val % 128 = (y 1).val - (256 * ((y 1).val / 256) + 128 * ((y 1).val % 256 / 128)) := by omega
  unfold permX
  rw [dif_pos (show (y 1).val < 9728 by omega)]
  simp only [e3]

section Rules

variable {defs : Defs nD τ sig (Elt F) Λ₀} (c : Dev nD) (E : Set ℕ) {α : Type}
variable (arg1 : Memref sig .tc .smem S1 .f32) (arg2 : Memref sig .tc .vmem S192x9856 .bf16) (arg3 : Memref sig .tc .vmem S9856x128 .i8)
  (arg4 : Memref sig .tc .vmem S192x512 .bf16) (harg4 : arg4.IsWhole) (arg5 : Memref sig .tc .vmem S192x9984 .bf16) (harg5 : arg5.IsWhole)

/-- A load of 128 columns of the activations. -/
theorem wp_ldX {o : Nat} {h : o + 128 ≤ 9856} {Q : α → sProp 𝕄} {X : Vec F S192x9856 .bf16} {k : Vec F S192x128 .bf16 → Prog (TpuEff nD τ sig (Elt F) Λ₀ .tc) α} :
    (owns (c : Thread nD τ) arg2 fullShare X : sProp 𝕄)
      ⊢ iprop((owns (c : Thread nD τ) arg2 fullShare X -∗ wp frame (wpE defs Variants.none c none) E (k (slabX X o h)) Q)
        -∗ wp frame (wpE defs Variants.none c none) E (ldX arg2 o h >>= k) Q) :=
  owns_load (defs := defs) (m := arg2) (r := (Rect.unit (s := S192x9856) ![0, o] S192x128.size (inbX h)).toLoadRect) (hl := View.loadsAt_vmem h_S192x128) (Q := Q) (X := X) (k := k) c E

/-- A store of 128 columns of the scratch. -/
theorem wp_stP {o : Nat} {h : o + 128 ≤ 9984} {v : FVec F S192x128 .bf16} {Q : α → sProp 𝕄} {S : Vec F S192x9984 .bf16} {k : PUnit → Prog (TpuEff nD τ sig (Elt F) Λ₀ .tc) α} :
    (owns (c : Thread nD τ) arg5 fullShare S : sProp 𝕄)
      ⊢ iprop((owns (c : Thread nD τ) arg5 fullShare ((Rect.unit (s := S192x9984) ![0, o] S192x128.size (inbP h)).overlay S v) -∗ wp frame (wpE defs Variants.none c none) E (k ⟨⟩) Q)
        -∗ wp frame (wpE defs Variants.none c none) E (stP arg5 harg5 o h v >>= k) Q) := by
  iintro H K
  ihave H' := (owns_load (defs := defs) (m := arg5) (r := (Rect.unit (s := S192x9984) ![0, o] S192x128.size (inbP h)).toLoadRect) (hl := View.loadsAt_vmem h_S192x128) (Q := Q) (X := S)
    (k := fun _ => .op (.store arg5 (Rect.unit (s := S192x9984) ![0, o] S192x128.size (inbP h)) v Finset.univ (View.stores_vmem h_S192x128 (harg5.storeExact_slice rfl _ (packedP h)) (fun _ => rfl)) (.inl rfl)) k) c E) $$ H
  iapply H'
  iintro H
  ihave H' := (owns_store (defs := defs) (m := arg5) (k := k) (Q := Q) (X := S) (r := Rect.unit (s := S192x9984) ![0, o] S192x128.size (inbP h)) (w := v) (hx := View.stores_vmem h_S192x128 (harg5.storeExact_slice rfl _ (packedP h)) (fun _ => rfl)) (hm := .inl rfl) c E) $$ H
  iapply H'
  iexact K

/-- A store of 128 columns of the output block. -/
theorem wp_stO {o : Nat} {h : o + 128 ≤ 512} {v : FVec F S192x128 .bf16} {Q : α → sProp 𝕄} {S : Vec F S192x512 .bf16} {k : PUnit → Prog (TpuEff nD τ sig (Elt F) Λ₀ .tc) α} :
    (owns (c : Thread nD τ) arg4 fullShare S : sProp 𝕄)
      ⊢ iprop((owns (c : Thread nD τ) arg4 fullShare ((Rect.unit (s := S192x512) ![0, o] S192x128.size (inbO h)).overlay S v) -∗ wp frame (wpE defs Variants.none c none) E (k ⟨⟩) Q)
        -∗ wp frame (wpE defs Variants.none c none) E (stO arg4 harg4 o h v >>= k) Q) := by
  iintro H K
  ihave H' := (owns_load (defs := defs) (m := arg4) (r := (Rect.unit (s := S192x512) ![0, o] S192x128.size (inbO h)).toLoadRect) (hl := View.loadsAt_vmem h_S192x128) (Q := Q) (X := S)
    (k := fun _ => .op (.store arg4 (Rect.unit (s := S192x512) ![0, o] S192x128.size (inbO h)) v Finset.univ (View.stores_vmem h_S192x128 (harg4.storeExact_slice rfl _ (packedO h)) (fun _ => rfl)) (.inl rfl)) k) c E) $$ H
  iapply H'
  iintro H
  ihave H' := (owns_store (defs := defs) (m := arg4) (k := k) (Q := Q) (X := S) (r := Rect.unit (s := S192x512) ![0, o] S192x128.size (inbO h)) (w := v) (hx := View.stores_vmem h_S192x128 (harg4.storeExact_slice rfl _ (packedO h)) (fun _ => rfl)) (hm := .inl rfl) c E) $$ H
  iapply H'
  iexact K

/-- One group permuted. -/
theorem wp_permStep {g : Nat} {h : g < 38} {Q : α → sProp 𝕄} {X : Vec F S192x9856 .bf16} {S : Vec F S192x9984 .bf16} (hS : PermTo X (256 * g) S)
    {k : PUnit → Prog (TpuEff nD τ sig (Elt F) Λ₀ .tc) α} :
    iprop(owns (c : Thread nD τ) arg2 fullShare X ∗ owns (c : Thread nD τ) arg5 fullShare S
        ∗ (∀ S', ⌜PermTo X (256 * (g + 1)) S'⌝ -∗ owns (c : Thread nD τ) arg2 fullShare X -∗ owns (c : Thread nD τ) arg5 fullShare S' -∗ wp frame (wpE defs Variants.none c none) E (k ⟨⟩) Q))
      ⊢ wp frame (wpE defs Variants.none c none) E (permStep arg2 arg5 harg5 g h >>= k) Q := by
  unfold permStep
  simp only [bind_assoc]
  iintro ⟨HX, HS, K⟩
  ihave H' := (wp_ldX (defs := defs) c E arg2 (X := X) (o := 256 * g) (h := by omega) (Q := Q)) $$ HX
  iapply H'
  iintro HX
  ihave H' := (wp_ldX (defs := defs) c E arg2 (X := X) (o := 256 * g + 128) (h := by omega) (Q := Q)) $$ HX
  iapply H'
  iintro HX
  ihave H' := (wp_stP (defs := defs) c E arg5 harg5 (o := 256 * g) (h := by omega) (Q := Q)) $$ HS
  iapply H'
  iintro HS
  ihave H' := (wp_stP (defs := defs) c E arg5 harg5 (o := 256 * g + 128) (h := by omega) (Q := Q)) $$ HS
  iapply H'
  iintro HS
  have hS' := permTo_overlay (permTo_overlay hS (by omega) (permV 0#32 (slabX X (256 * g) (by omega)) (slabX X (256 * g + 128) (by omega)))
      fun y h1 h2 => permV_eq X g h 0 (by omega) y h1 h2) (by omega) (permV 1#32 (slabX X (256 * g) (by omega)) (slabX X (256 * g + 128) (by omega)))
    fun y h1 h2 => permV_eq X g h 1 (by omega) y h1 h2
  ispecialize K $$ %_ %hS' HX HS
  iexact K

/-- `n` groups permuted. -/
theorem wp_permSteps {Q : α → sProp 𝕄} {X : Vec F S192x9856 .bf16} {k : PUnit → Prog (TpuEff nD τ sig (Elt F) Λ₀ .tc) α} :
    ∀ (n g : Nat) (h : g + n ≤ 38) (S : Vec F S192x9984 .bf16), PermTo X (256 * g) S →
    iprop(owns (c : Thread nD τ) arg2 fullShare X ∗ owns (c : Thread nD τ) arg5 fullShare S
        ∗ (∀ S', ⌜PermTo X (256 * (g + n)) S'⌝ -∗ owns (c : Thread nD τ) arg2 fullShare X -∗ owns (c : Thread nD τ) arg5 fullShare S' -∗ wp frame (wpE defs Variants.none c none) E (k ⟨⟩) Q))
      ⊢ wp frame (wpE defs Variants.none c none) E (permSteps arg2 arg5 harg5 n g h >>= k) Q
  | 0, g, h, S, hS => by
    iintro ⟨HX, HS, K⟩
    ispecialize K $$ %S %hS HX HS
    iexact K
  | n + 1, g, h, S, hS => by
    unfold permSteps
    simp only [bind_assoc]
    iintro ⟨HX, HS, K⟩
    iapply (wp_permStep (defs := defs) c E arg2 arg5 harg5 (g := g) (h := _) (Q := Q) hS)
    isplitl [HX]; · iexact HX
    isplitl [HS]; · iexact HS
    iintro %S' %hS' HX HS
    iapply (wp_permSteps n (g + 1) _ S' hS')
    isplitl [HX]; · iexact HX
    isplitl [HS]; · iexact HS
    rw [show g + 1 + n = g + (n + 1) by omega]
    iexact K

/-- The whole of the activations permuted. -/
theorem wp_permAll {Q : α → sProp 𝕄} {X : Vec F S192x9856 .bf16} {k : PUnit → Prog (TpuEff nD τ sig (Elt F) Λ₀ .tc) α} {S : Vec F S192x9984 .bf16} :
    iprop(owns (c : Thread nD τ) arg2 fullShare X ∗ owns (c : Thread nD τ) arg5 fullShare S
        ∗ (owns (c : Thread nD τ) arg2 fullShare X -∗ owns (c : Thread nD τ) arg5 fullShare (permX X) -∗ wp frame (wpE defs Variants.none c none) E (k ⟨⟩) Q))
      ⊢ wp frame (wpE defs Variants.none c none) E (permAll arg2 arg5 harg5 >>= k) Q := by
  unfold permAll
  simp only [bind_assoc]
  iintro ⟨HX, HS, K⟩
  iapply (wp_permSteps (defs := defs) c E arg2 arg5 harg5 38 0 _ S (fun y hy => absurd hy (by omega)))
  isplitl [HX]; · iexact HX
  isplitl [HS]; · iexact HS
  iintro %S' %hS' HX HS
  ihave H' := (wp_ldX (defs := defs) c E arg2 (X := X) (o := 9728) (h := by omega) (Q := Q)) $$ HX
  iapply H'
  iintro HX
  ihave H' := (wp_stP (defs := defs) c E arg5 harg5 (o := 9728) (h := by omega) (Q := Q)) $$ HS
  iapply H'
  iintro HS
  ihave H' := (wp_stP (defs := defs) c E arg5 harg5 (o := 9856) (h := by omega) (Q := Q)) $$ HS
  iapply H'
  iintro HS
  have h1 : PermTo X (9728 + 128) _ := permTo_overlay (j := 9728) hS' (by omega) (permTailV (slabX X 9728 (by omega))) (fun y h1 h2 => by
    unfold permX
    rw [dif_neg (by omega), if_pos (by omega)]
    have e : (y 1).val % 128 = (y 1).val - 9728 := by omega
    simp only [e])
  have h2 : PermTo X (9856 + 128) _ := permTo_overlay (j := 9856) h1 (by omega) zerosV (fun y h1 h2 => by
    unfold permX
    rw [dif_neg (by omega), if_neg (by omega)]
    have e : (y 1).val % 128 = (y 1).val - 9856 := by omega
    simp only [e])
  have h3 := funext fun y => h2 y (y 1).isLt
  ispecialize K $$ HX
  rw [← h3]
  ispecialize K $$ HS
  iexact K

end Rules

end Cert.Kernel.Gen
-- ==== Proof.BitsTriple.lean ====
module

public import proofs.«01_k».proof.Proof.BitsRules

/-! The whole body's rule: from the scale, the activations, a weight block, and the scratch, the output block and the
    scratch after it. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.Kernel.Facts₀ Cert.Kernel.Facts

variable {F : FTy → Type} [FloatOps F]

local notation "𝕄" => MT nD τ sig Unit (Elt F) ℕ (UR sig nD τ) ℕ

/-- The one scale. -/
def scaleOf (s : Vec F S1 .f32) : F .f32 := s (Shape.Idx.first (numel1_S1.symm ▸ Nat.one_pos))

/-- The output block's four tiles, stored over whatever it held. -/
theorem outBlk_eq (s : F .f32) (a b : FVec F S192x256 .f32) (S : Vec F S192x512 .bf16) :
    (Rect.unit (s := S192x512) ![0, 384] S192x128.size (inbO (by omega))).overlay
      ((Rect.unit (s := S192x512) ![0, 256] S192x128.size (inbO (by omega))).overlay
        ((Rect.unit (s := S192x512) ![0, 128] S192x128.size (inbO (by omega))).overlay
          ((Rect.unit (s := S192x512) ![0, 0] S192x128.size (inbO (by omega))).overlay S
            (outV 0#32 (leftV (scaledV s a)) (rightV (scaledV s a)) (leftV (scaledV s b)) (rightV (scaledV s b))))
          (outV 32#32 (leftV (scaledV s a)) (rightV (scaledV s a)) (leftV (scaledV s b)) (rightV (scaledV s b))))
        (outV 64#32 (leftV (scaledV s a)) (rightV (scaledV s a)) (leftV (scaledV s b)) (rightV (scaledV s b))))
      (outV 96#32 (leftV (scaledV s a)) (rightV (scaledV s a)) (leftV (scaledV s b)) (rightV (scaledV s b)))
      = outBlk s a b := by
  funext y
  have hy : (y 1).val < 512 := (y 1).isLt
  unfold outBlk
  by_cases h3 : 384 ≤ (y 1).val
  · refine (overlay_in (inb := inbO (by omega)) _ _ y h3 (by omega)).trans ?_
    simp only [show (y 1).val / 128 = 3 by omega, show (y 1).val % 128 = (y 1).val - 384 by omega]
  refine (overlay_out (inb := inbO (by omega)) _ _ y (.inl (by omega))).trans ?_
  by_cases h2 : 256 ≤ (y 1).val
  · refine (overlay_in (inb := inbO (by omega)) _ _ y h2 (by omega)).trans ?_
    simp only [show (y 1).val / 128 = 2 by omega, show (y 1).val % 128 = (y 1).val - 256 by omega]
  refine (overlay_out (inb := inbO (by omega)) _ _ y (.inl (by omega))).trans ?_
  by_cases h1 : 128 ≤ (y 1).val
  · refine (overlay_in (inb := inbO (by omega)) _ _ y h1 (by omega)).trans ?_
    simp only [show (y 1).val / 128 = 1 by omega, show (y 1).val % 128 = (y 1).val - 128 by omega]
  refine (overlay_out (inb := inbO (by omega)) _ _ y (.inl (by omega))).trans ?_
  refine (overlay_in (inb := inbO (by omega)) _ _ y (Nat.zero_le _) (by omega)).trans ?_
  simp only [show (y 1).val / 128 = 0 by omega, show (y 1).val % 128 = (y 1).val - 0 by omega]

section Rules

variable {defs : Defs nD τ sig (Elt F) Λ₀} (c : Dev nD) (E : Set ℕ) {α : Type}
variable (arg1 : Memref sig .tc .smem S1 .f32) (arg2 : Memref sig .tc .vmem S192x9856 .bf16) (arg3 : Memref sig .tc .vmem S9856x128 .i8)
  (arg4 : Memref sig .tc .vmem S192x512 .bf16) (harg4 : arg4.IsWhole) (arg5 : Memref sig .tc .vmem S192x9984 .bf16) (harg5 : arg5.IsWhole)

/-- A load at the head of a program. -/
theorem owns_lift_load {sp : CoreSpace} {sh : Shape} {e : EltTy} {m : Memref sig .tc sp sh e} {r : LoadRect sh} {hl : m.view.LoadsAt r}
    {Q : α → sProp 𝕄} {k : (r.shape.Idx → Elt F e) → Prog (TpuEff nD τ sig (Elt F) Λ₀ .tc) α} {q : PosShare TreeShare} {X : sh.Idx → Elt F e} :
    (owns (c : Thread nD τ) m q X : sProp 𝕄)
      ⊢ iprop((owns (c : Thread nD τ) m q X -∗ wp frame (wpE defs Variants.none c none) E (k fun i => X (r.idx i)) Q)
        -∗ wp frame (wpE defs Variants.none c none) E (Prog.lift (.load m r hl) >>= k) Q) :=
  owns_load (defs := defs) (m := m) (r := r) (hl := hl) (Q := Q) (X := X) (k := k) c E

/-- The end of a program. -/
theorem wp_done {Q : α → sProp 𝕄} {x : α} :
    (Q x : sProp 𝕄) ⊢ wp frame (wpE defs Variants.none c none) E (pure x : Prog (TpuEff nD τ sig (Elt F) Λ₀ .tc) α) Q := by
  show _ ⊢ wp frame _ E (Prog.ret x) Q
  rw [wp_ret]
  iintro H
  imodintro
  iexact H

/-- The scale read. -/
theorem wp_scale {Q : α → sProp 𝕄} {k : Elt F .f32 → Prog (TpuEff nD τ sig (Elt F) Λ₀ .tc) α} {X : Vec F S1 .f32} :
    (owns (c : Thread nD τ) arg1 fullShare X : sProp 𝕄)
      ⊢ iprop((owns (c : Thread nD τ) arg1 fullShare X -∗ wp frame (wpE defs Variants.none c none) E (k (scaleOf X)) Q)
        -∗ wp frame (wpE defs Variants.none c none) E (smemLoad arg1 (Rect.unit (s := S1) ![0] S1.size inb_S1_S1_0) numel1_S1 rfl >>= k) Q) := by
  have h := owns_load (defs := defs) (m := arg1) (r := (Rect.unit (s := S1) ![0] S1.size inb_S1_S1_0).toLoadRect) (hl := View.loadsAt_rect (View.loads_smem_one rfl numel1_S1)) (Q := Q) (X := X) (q := fullShare)
    (k := fun f => k (f (Shape.Idx.first (numel1_S1.symm ▸ Nat.one_pos)))) c E
  have e : X ((Rect.unit (s := S1) ![0] S1.size inb_S1_S1_0).toLoadRect.idx (Shape.Idx.first (numel1_S1.symm ▸ Nat.one_pos))) = scaleOf X := by
    unfold scaleOf
    congr 1
    funext a
    match a with
    | ⟨0, _⟩ => exact Subsingleton.elim (α := Fin 1) _ _
  rw [← e]
  exact h

/-- The products of one group. -/
theorem wp_groupStep {g : Nat} {h : g < 38} {u : Mxu F} (hu : Calm u) {Q : α → sProp 𝕄} {W : Vec F S9856x128 .i8} {P : Vec F S192x9984 .bf16}
    {k : Mxu F → Prog (TpuEff nD τ sig (Elt F) Λ₀ .tc) α} :
    iprop(owns (c : Thread nD τ) arg3 fullShare W ∗ owns (c : Thread nD τ) arg5 fullShare P
        ∗ (owns (c : Thread nD τ) arg3 fullShare W -∗ owns (c : Thread nD τ) arg5 fullShare P -∗ wp frame (wpE defs Variants.none c none) E (k (mxuStep W P g h u)) Q))
      ⊢ wp frame (wpE defs Variants.none c none) E (groupStep arg3 arg5 g h u >>= k) Q := by
  unfold groupStep
  simp only [bind_assoc]
  iintro ⟨HW, HP, K⟩
  ihave H' := (owns_lift_load (defs := defs) c E (Q := Q)) $$ HW
  iapply H'
  iintro HW
  ihave H' := (owns_lift_load (defs := defs) c E (Q := Q)) $$ HP
  iapply H'
  iintro HP
  iapply (Mxu.wp_pushRhs (c := (c : Thread nD τ)) _ (Mxu.pushOk_of_none _ _ _ _ (hu.reg _ _)))
  iapply (Mxu.wp_pushRhs (c := (c : Thread nD τ)) _ (Mxu.pushOk_of_none _ _ _ _ ((calm_pushAcc hu _ _ _ _).reg _ _)))
  ispecialize K $$ HW HP
  iexact K

/-- The products of `n` groups. -/
theorem wp_groupSteps {Q : α → sProp 𝕄} {W : Vec F S9856x128 .i8} {P : Vec F S192x9984 .bf16} {k : Mxu F → Prog (TpuEff nD τ sig (Elt F) Λ₀ .tc) α} :
    ∀ (n g : Nat) (h : g + n ≤ 38) (u : Mxu F), Calm u →
    iprop(owns (c : Thread nD τ) arg3 fullShare W ∗ owns (c : Thread nD τ) arg5 fullShare P
        ∗ (owns (c : Thread nD τ) arg3 fullShare W -∗ owns (c : Thread nD τ) arg5 fullShare P -∗ wp frame (wpE defs Variants.none c none) E (k (mxuSteps W P n g h u)) Q))
      ⊢ wp frame (wpE defs Variants.none c none) E (groupSteps arg3 arg5 n g h u >>= k) Q
  | 0, g, h, u, hu => by
    iintro ⟨HW, HP, K⟩
    ispecialize K $$ HW HP
    iexact K
  | n + 1, g, h, u, hu => by
    unfold groupSteps
    simp only [bind_assoc]
    iintro ⟨HW, HP, K⟩
    iapply (wp_groupStep (defs := defs) c E arg3 arg5 (g := g) (h := _) hu (Q := Q))
    isplitl [HW]; · iexact HW
    isplitl [HP]; · iexact HP
    iintro HW HP
    iapply (wp_groupSteps n (g + 1) _ _ (calm_mxuStep W P g _ hu))
    isplitl [HW]; · iexact HW
    isplitl [HP]; · iexact HP
    iexact K

/-- The products of the last group. -/
theorem wp_groupTail {u : Mxu F} (hu : Calm u) {Q : α → sProp 𝕄} {W : Vec F S9856x128 .i8} {P : Vec F S192x9984 .bf16}
    {k : Mxu F → Prog (TpuEff nD τ sig (Elt F) Λ₀ .tc) α} :
    iprop(owns (c : Thread nD τ) arg3 fullShare W ∗ owns (c : Thread nD τ) arg5 fullShare P
        ∗ (owns (c : Thread nD τ) arg3 fullShare W -∗ owns (c : Thread nD τ) arg5 fullShare P -∗ wp frame (wpE defs Variants.none c none) E (k (mxuTail W P u)) Q))
      ⊢ wp frame (wpE defs Variants.none c none) E (groupTail arg3 arg5 u >>= k) Q := by
  unfold groupTail
  simp only [bind_assoc]
  iintro ⟨HW, HP, K⟩
  ihave H' := (owns_lift_load (defs := defs) c E (Q := Q)) $$ HW
  iapply H'
  iintro HW
  ihave H' := (owns_lift_load (defs := defs) c E (Q := Q)) $$ HP
  iapply H'
  iintro HP
  iapply (Mxu.wp_pushRhs (c := (c : Thread nD τ)) _ (Mxu.pushOk_of_none _ _ _ _ (hu.reg _ _)))
  iapply (Mxu.wp_pushRhs (c := (c : Thread nD τ)) _ (Mxu.pushOk_of_none _ _ _ _ ((calm_pushAcc hu _ _ _ _).reg _ _)))
  ispecialize K $$ HW HP
  iexact K

/-- The accumulators read, scaled and stored. -/
theorem wp_finish {u : Mxu F} (hu : Calm u) {Q : PUnit → sProp 𝕄} {s : Vec F S1 .f32} {S : Vec F S192x512 .bf16} :
    iprop(owns (c : Thread nD τ) arg1 fullShare s ∗ owns (c : Thread nD τ) arg4 fullShare S
        ∗ (owns (c : Thread nD τ) arg1 fullShare s -∗ owns (c : Thread nD τ) arg4 fullShare (outBlk (scaleOf s) (u.read 0 0 fits_0_192) ((u.pop 0 0 192 fits_0_192).read 1 0 fits_0_192)) -∗ Q ⟨⟩))
      ⊢ wp frame (wpE defs Variants.none c none) E (finish arg1 arg4 harg4 u) Q := by
  unfold finish
  iintro ⟨H1, H4, K⟩
  ihave H' := (wp_scale (defs := defs) c E arg1 (Q := Q)) $$ H1
  iapply H'
  iintro H1
  ihave H' := (wp_stO (defs := defs) c E arg4 harg4 (o := 0) (h := by omega) (Q := Q)) $$ H4
  iapply H'
  iintro H4
  ihave H' := (wp_stO (defs := defs) c E arg4 harg4 (o := 128) (h := by omega) (Q := Q)) $$ H4
  iapply H'
  iintro H4
  ihave H' := (wp_stO (defs := defs) c E arg4 harg4 (o := 256) (h := by omega) (Q := Q)) $$ H4
  iapply H'
  iintro H4
  ihave H' := (wp_stO (defs := defs) c E arg4 harg4 (o := 384) (h := by omega) (Q := Q)) $$ H4
  iapply H'
  iintro H4
  iapply (Mxu.wp_exit (c := (c : Thread nD τ)) (drained_pops hu))
  iapply (wp_done (defs := defs) c E)
  ispecialize K $$ H1
  rw [← outBlk_eq _ _ _ S]
  ispecialize K $$ H4
  iexact K

/-- The products and the output. -/
theorem wp_rest {Q : PUnit → sProp 𝕄} {s : Vec F S1 .f32} {W : Vec F S9856x128 .i8} {P : Vec F S192x9984 .bf16} :
    iprop(owns (c : Thread nD τ) arg1 fullShare s ∗ owns (c : Thread nD τ) arg3 fullShare W ∗ (∃ S, owns (c : Thread nD τ) arg4 fullShare S) ∗ owns (c : Thread nD τ) arg5 fullShare P
        ∗ (owns (c : Thread nD τ) arg1 fullShare s -∗ owns (c : Thread nD τ) arg3 fullShare W
            -∗ owns (c : Thread nD τ) arg4 fullShare (outBlk (scaleOf s) ((mxuAll W P).read 0 0 fits_0_192) (((mxuAll W P).pop 0 0 192 fits_0_192).read 1 0 fits_0_192))
            -∗ owns (c : Thread nD τ) arg5 fullShare P -∗ Q ⟨⟩))
      ⊢ wp frame (wpE defs Variants.none c none) E (rest arg1 arg3 arg4 harg4 arg5 Mxu.init) Q := by
  unfold rest mxuAll
  iintro ⟨H1, H3, ⟨%S, H4⟩, H5, K⟩
  iapply (wp_groupSteps (defs := defs) c E arg3 arg5 38 0 _ _ calm_init)
  isplitl [H3]; · iexact H3
  isplitl [H5]; · iexact H5
  iintro H3 H5
  iapply (wp_groupTail (defs := defs) c E arg3 arg5 (calm_mxuSteps W P 38 0 _ _ calm_init))
  isplitl [H3]; · iexact H3
  isplitl [H5]; · iexact H5
  iintro H3 H5
  iapply (wp_finish (defs := defs) c E arg1 arg4 harg4 (calm_mxuTail W P (calm_mxuSteps W P 38 0 _ _ calm_init)))
  isplitl [H1]; · iexact H1
  isplitl [H4]; · iexact H4
  iintro H1 H4
  ispecialize K $$ H1 H3 H4 H5
  iexact K

end Rules

/-- The scratch after the body: the permuted activations at the first grid point, unchanged at the others. -/
def scratchAfter (i : grid0.Coords) (X : Vec F S192x9856 .bf16) (P : Vec F S192x9984 .bf16) : Vec F S192x9984 .bf16 :=
  if isFirst i = 1#1 then permX X else P

/-- The output block the body leaves. -/
def blockOut (s : Vec F S1 .f32) (W : Vec F S9856x128 .i8) (P : Vec F S192x9984 .bf16) : Vec F S192x512 .bf16 :=
  outBlk (scaleOf s) ((mxuAll W P).read 0 0 fits_0_192) (((mxuAll W P).pop 0 0 192 fits_0_192).read 1 0 fits_0_192)

/-- The whole body. -/
theorem wp_body {defs : Defs nD τ sig (Elt F) Λ₀} (c : Dev nD) (E : Set ℕ) (i : grid0.Coords) (arg1 : Memref sig .tc .smem S1 .f32) (harg1 : arg1.IsWhole)
    (arg2 : Memref sig .tc .vmem S192x9856 .bf16) (harg2 : arg2.IsWhole) (arg3 : Memref sig .tc .vmem S9856x128 .i8) (harg3 : arg3.IsWhole)
    (arg4 : Memref sig .tc .vmem S192x512 .bf16) (harg4 : arg4.IsWhole) (arg5 : Memref sig .tc .vmem S192x9984 .bf16) (harg5 : arg5.IsWhole)
    {Q : PUnit → sProp 𝕄} {s : Vec F S1 .f32} {X : Vec F S192x9856 .bf16} {W : Vec F S9856x128 .i8} {P : Vec F S192x9984 .bf16} :
    iprop(owns (c : Thread nD τ) arg1 fullShare s ∗ owns (c : Thread nD τ) arg2 fullShare X ∗ owns (c : Thread nD τ) arg3 fullShare W
        ∗ (∃ S, owns (c : Thread nD τ) arg4 fullShare S) ∗ owns (c : Thread nD τ) arg5 fullShare P
        ∗ (owns (c : Thread nD τ) arg1 fullShare s -∗ owns (c : Thread nD τ) arg2 fullShare X -∗ owns (c : Thread nD τ) arg3 fullShare W
            -∗ owns (c : Thread nD τ) arg4 fullShare (blockOut s W (scratchAfter i X P))
            -∗ owns (c : Thread nD τ) arg5 fullShare (scratchAfter i X P) -∗ Q ⟨⟩))
      ⊢ wp frame (wpE defs Variants.none c none) E (cc0_ternary_linear (F := F) i arg1 harg1 arg2 harg2 arg3 harg3 arg4 harg4 arg5 harg5) Q := by
  unfold scratchAfter blockOut
  by_cases h : isFirst i = 1#1
  · rw [body_first _ _ _ _ _ _ _ _ _ _ _ h, if_pos h, pops_init]
    iintro ⟨H1, H2, H3, H4, H5, K⟩
    iapply (wp_permAll (defs := defs) c E arg2 arg5 harg5)
    isplitl [H2]; · iexact H2
    isplitl [H5]; · iexact H5
    iintro H2 H5
    iapply (wp_rest (defs := defs) c E arg1 arg3 arg4 harg4 arg5)
    isplitl [H1]; · iexact H1
    isplitl [H3]; · iexact H3
    isplitl [H4]; · iexact H4
    isplitl [H5]; · iexact H5
    iintro H1 H3 H4 H5
    ispecialize K $$ H1 H2 H3 H4 H5
    iexact K
  · rw [body_other _ _ _ _ _ _ _ _ _ _ _ h, if_neg h]
    iintro ⟨H1, H2, H3, H4, H5, K⟩
    iapply (wp_rest (defs := defs) c E arg1 arg3 arg4 harg4 arg5)
    isplitl [H1]; · iexact H1
    isplitl [H3]; · iexact H3
    isplitl [H4]; · iexact H4
    isplitl [H5]; · iexact H5
    iintro H1 H3 H4 H5
    ispecialize K $$ H1 H2 H3 H4 H5
    iexact K

end Cert.Kernel.Gen
-- ==== Proof.BitsRegion.lean ====
module

public import proofs.«01_k».proof.Proof.BitsTriple

/-! The pipeline's proof data: what each staging buffer and the scratch hold at each grid point, and the body's triple there. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t₀ : Fin cfg0.N := ⟨0, by decide⟩

/-- The body's first-point branch is taken at the first grid point only. -/
theorem isFirst_iff : ∀ t : Fin cfg0.N, isFirst (grid0.coords t) = 1#1 ↔ t.val = 0 := by
  show ∀ t : Fin grid0.N, isFirst (grid0.coords t) = 1#1 ↔ t.val = 0
  decide +kernel

/-- The scale's array at a point. -/
def sAt (c : Dev nD) (t : Fin cfg0.N) : Vec F S1 .f32 := iblk m c 0 t

/-- The activations at a point. -/
def xAt (c : Dev nD) (t : Fin cfg0.N) : Vec F S192x9856 .bf16 := iblk m c 1 t

/-- The activations are the same at every point. -/
theorem xAt_eq (c : Dev nD) (t : Fin cfg0.N) : xAt m c t = xAt m c t₀ := rfl

/-- The weight block at a point over the contents `d` of its buffer: the last block overhangs the array. -/
def wAt (c : Dev nD) (t : Fin cfg0.N) (d : Vec F S9856x128 .i8) : Vec F S9856x128 .i8 :=
  (cfg0.win 2).fill (cfg0.grid.coords t) d (iblk m c 2 t)

/-- The permuted activations. -/
def permOf (c : Dev nD) : Vec F S192x9984 .bf16 := permX (xAt m c t₀)

/-- The output block at a point, over the contents `d` of the weight buffer. -/
def oAt (c : Dev nD) (t : Fin cfg0.N) (d : Vec F S9856x128 .i8) : Vec F S192x512 .bf16 :=
  blockOut (sAt m c t) (wAt m c t d) (permOf m c)

/-- The proof data. -/
def dats (_ : Fin 1) (c : Dev nD) : Dat τ (Elt F) Unit ℕ (UR sig nD τ) ℕ cfg0 c where
  A w := V m c (Pipeline.arrRef spec0 w)
  after w t := match w with
    | ⟨0, _⟩ => sAt m c t
    | ⟨1, _⟩ => xAt m c t
    | ⟨2, _⟩ => wAt m c t (fun _ => (0#8 : BitVec 8))
    | ⟨3, _⟩ => oAt m c t (fun _ => (0#8 : BitVec 8))
  Φ t := iprop((∃ f : Vec F S192x9984 .bf16, ⌜t.val = 0 ∨ f = permOf m c⌝ ∗ owns (c : Thread nD τ) (Memref.whole cc0_scratch0) fullShare f) ∗ ∃ r, prngReg c r)
  q _ := fullShare
  owed _ := 0

/-- An array's contents when the region starts. -/
theorem A_eq (c : Dev nD) (w : Fin cfg0.W) : (dats m 0 c).A w = V m c (Pipeline.arrRef spec0 w) := by
  dsimp only [dats]

/-- The scale buffer after the body. -/
theorem after0_0 (c : Dev nD) (t : Fin cfg0.N) : (dats m 0 c).after 0 t = iblk m c 0 t := by dsimp only [dats]; rfl
/-- The x buffer after the body. -/
theorem after0_1 (c : Dev nD) (t : Fin cfg0.N) : (dats m 0 c).after 1 t = iblk m c 1 t := by dsimp only [dats]; rfl
/-- The weight buffer after the body. -/
theorem after0_2 (c : Dev nD) (t : Fin cfg0.N) : (dats m 0 c).after 2 t = wAt m c t (fun _ => (0#8 : BitVec 8)) := by dsimp only [dats]
/-- The output buffer after the body. -/
theorem after0_3 (c : Dev nD) (t : Fin cfg0.N) : (dats m 0 c).after 3 t = oAt m c t (fun _ => (0#8 : BitVec 8)) := by dsimp only [dats]

/-- The scale buffer before the body. -/
theorem before0_0 (c : Dev nD) (t : Fin cfg0.N) (d) : (dats m 0 c).before 0 t d = sAt m c t :=
  before0_0_of m (dats m 0 c) (A_eq m c 0) (after0_0 m c) t d
/-- The x buffer before the body. -/
theorem before0_1 (c : Dev nD) (t : Fin cfg0.N) (d) : (dats m 0 c).before 1 t d = xAt m c t :=
  before0_1_of m (dats m 0 c) (A_eq m c 1) (after0_1 m c) t d
/-- The weight buffer before the body: the block where the transfer fills it, `d` elsewhere. -/
theorem before0_2 (c : Dev nD) (t : Fin cfg0.N) (d) : (dats m 0 c).before 2 t d = wAt m c t d :=
  ((dats m 0 c).before_fetched 2 t (fetch0_2 t) d).trans
    (by unfold Dat.fetched Dat.blockOf wAt iblk; rw [A_eq])

/-- What is kept between grid points: the scratch (the permuted x from the second point on) and the random register. -/
theorem Φ_eq (c : Dev nD) (t : Fin (cfg0.N + 1)) : (dats m 0 c).Φ t = iprop((∃ f : Vec F S192x9984 .bf16, ⌜t.val = 0 ∨ f = permOf m c⌝ ∗ owns (c : Thread nD τ) (Memref.whole cc0_scratch0) fullShare f) ∗ ∃ r, prngReg c r) := by
  dsimp only [dats]

/-- What holds before the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- What holds after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d : Vec F S9856x128 .i8, owns (c : Thread nD τ) (st0_2 t) fullShare (wAt m c t d) ∗ owns (c : Thread nD τ) (st0_3 t) fullShare (oAt m c t d)))

/-- The scratch after the body at a point holds the permuted activations. -/
theorem scratchAfter_eq (c : Dev nD) (t : Fin cfg0.N) (f : Vec F S192x9984 .bf16) (h : t.val = 0 ∨ f = permOf m c) :
    scratchAfter (grid0.coords t) (xAt m c t) f = permOf m c := by
  unfold scratchAfter
  by_cases ht : t.val = 0
  · rw [if_pos ((isFirst_iff t).mpr ht)]; rfl
  · rw [if_neg (fun e => ht ((isFirst_iff t).mp e))]; exact h.resolve_left ht

/-- The body's triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, Φ_eq, Φ_eq]
  iintro ⟨⟨⟨%f, %hf, HS⟩, Hr⟩, Ho, ⟨%d0, H0⟩, ⟨%d1, H1⟩, ⟨%d2, H2⟩, H3⟩
  iapply (wp_body (defs := defs₀ (F := F)) c Set.univ)
  isplitl [H0]; · iexact H0
  isplitl [H1]; · iexact H1
  isplitl [H2]; · iexact H2
  isplitl [H3]; · iexact H3
  isplitl [HS]; · iexact HS
  rw [scratchAfter_eq m c t f hf]
  iintro H0 H1 H2 H3 HS
  isplitl [HS Hr]
  · isplitl [HS]
    · iexists (permOf m c)
      isplitr
      · ipureintro; exact .inr rfl
      · iexact HS
    · iexact Hr
  isplitl [Ho]; · iexact Ho
  isplitl [H0]; · iexact H0
  isplitl [H1]; · iexact H1
  iexists d2
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The class invariant gives the tracked one before the first point. -/
theorem Φ_in (c : Dev nD) : (Pipeline.ΦA spec0 c : sProp 𝕄) ⊢ (dats m 0 c).Φ 0 := by
  rw [Φ_eq]
  unfold Pipeline.ΦA
  rw [scopedRest0_eq]
  simp only [owns_whole]
  iintro ⟨⟨%f, HS⟩, Hr⟩
  isplitl [HS]
  · iexists f
    isplitr
    · ipureintro; exact .inl rfl
    · iexact HS
  · iexact Hr

/-- The tracked invariant gives the class one back. -/
theorem Φ_out (c : Dev nD) (t : Fin (cfg0.N + 1)) : (dats m 0 c).Φ t ⊢ (Pipeline.ΦA spec0 c : sProp 𝕄) := by
  rw [Φ_eq]
  unfold Pipeline.ΦA
  rw [scopedRest0_eq]
  simp only [owns_whole]
  iintro ⟨⟨%f, %hf, HS⟩, Hr⟩
  isplitl [HS]
  · iexists f
    iexact HS
  · iexact Hr

end Cert.Kernel.Gen
-- ==== Proof.BitsFrames.lean ====
module

public import proofs.«01_k».proof.Proof.BitsRegion

/-! The frame: every run ends, the arguments unchanged and the counters at zero. The output's contents are not followed here. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.Kernel.Facts₀ Cert.Kernel.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one not followed. -/
def fgt : Fin cfg0.W → Bool := fun w => match w with
  | ⟨3, _⟩ => true
  | _ => false

/-- The weight buffer after the body, as the loop describes it: the block where the transfer reached, anything elsewhere. -/
theorem wAt_eq (c : Dev nD) (t : Fin cfg0.N) (d : Vec F S9856x128 .i8) :
    wAt m c t d = (cfg0.win 2).fill (cfg0.grid.coords t) d ((cfg0.win 2).cut (cfg0.grid.coords t) ((dats m 0 c).after 2 t)) := by
  rw [after0_2]
  unfold wAt
  rw [(cfg0.win 2).cut_fill]

/-- What the loop asks after the body, the output not followed. -/
def bodyPostForget (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare d))

/-- What the body leaves entails the same with the output not followed. -/
theorem bodyPost_forget (c : Dev nD) (t : Fin cfg0.N) : bodyPost m c t ⊢ bodyPostForget m c t := by
  unfold bodyPost bodyPostForget
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← wAt_eq]
    iexact H2
  · iexists _; iexact H3

/-- The body's obligation, the output not followed. -/
theorem body_obligation_forget (c : Dev nD) : BodyObligationLoose (dats (F := F) m 0 c) (defs₀ (F := F)) Variants.none () Set.univ fgt := fun t => by
  rw [bigSep_W0, bigSep_W0, defs₀_row]
  exact triple_restated (sound_body m c t) rfl .rfl fun _ => bodyPost_forget m c t

-- the run's implicit arguments are found by unifying its conclusion with this one, which takes unfolding plain
-- definitions in a metavariable's type
set_option backward.isDefEq.respectTransparency.types false in
/-- The run, the output not followed. -/
theorem run_forget : θ_run defs (onTc (τ := τ) (main (F := F))) (s₀ m ρ)
    (fun r => RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := body_obligation_forget m) (hshare := fun c => (dats m 0 c).share_full fun _ => rfl)
    (howed := fun _ _ => rfl) (V := V m) (hmain := hmain m Variants.none) (hA := A_eq m)
    (hin := Φ_in m) (hout := fun c => Φ_out m c _)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (RDat.FramePost.arr_in h.1 c 2 rfl).trans ((A_eq m c 2).trans (V_main_arg1 m c)),
      ((h.1 c).2 main_arg2 (Pipeline.mem_restRefs_of main_arg2 (by decide) (by decide))).trans (V_main_arg2 m c)⟩, h.2⟩) (run_forget m ρ)

end Cert.Kernel.Gen
-- ==== Proof.Body.lean ====
module

public import proofs.«01_k».proof.Proof.Gen.KernelIdeal.Frame
public import Idealize.ShloMosaic.Lib.Mxu.Lemmas
public import Idealize.ShloMosaic.Lib.Mxu.PassChain
public import Idealize.ShloMosaic.Lib.Pipeline.Regions

/-! The kernel's body written over the group number: the permutation of the activations group by group, the
    products group by group, the output tile by tile; and that the printed body is this program. -/

@[expose] public section

set_option maxRecDepth 16384

noncomputable section

namespace Cert.KernelIdeal.Gen

open Idealize.ShloMosaic Idealize.ShloMosaic.TcCoe Idealize.SL.Sem
open Cert.KernelIdeal.Facts₀ Cert.KernelIdeal.Facts

variable {F : FTy → Type} [FloatOps F]

/-! ## Rectangles at a symbolic group -/

/-- 128 columns of the activations from a column `o`. -/
theorem inbX {o : Nat} (h : o + 128 ≤ 9856) : ∀ a, (![0, o] : Fin 2 → Nat) a + S192x128.size a ≤ S192x9856.size a
  | 0 => Nat.le_refl 192
  | 1 => h

/-- 128 columns of the scratch from a column `o`. -/
theorem inbP {o : Nat} (h : o + 128 ≤ 9984) : ∀ a, (![0, o] : Fin 2 → Nat) a + S192x128.size a ≤ S192x9984.size a
  | 0 => Nat.le_refl 192
  | 1 => h

/-- 256 columns of the scratch from a column `o`. -/
theorem inbQ {o : Nat} (h : o + 256 ≤ 9984) : ∀ a, (![0, o] : Fin 2 → Nat) a + S192x256.size a ≤ S192x9984.size a
  | 0 => Nat.le_refl 192
  | 1 => h

/-- 256 rows of the weight block from a row `o`. -/
theorem inbW {o : Nat} (h : o + 256 ≤ 9856) : ∀ a, (![o, 0] : Fin 2 → Nat) a + S256x128.size a ≤ S9856x128.size a
  | 0 => h
  | 1 => Nat.le_refl 128

/-- 128 columns of the output block from a column `o`. -/
theorem inbO {o : Nat} (h : o + 128 ≤ 512) : ∀ a, (![0, o] : Fin 2 → Nat) a + S192x128.size a ≤ S192x512.size a
  | 0 => Nat.le_refl 192
  | 1 => h

/-- A column slab of the scratch holds whole packed rows. -/
theorem packedP {o : Nat} (h : o + 128 ≤ 9984) :
    (Rect.unit (s := S192x9984) ![0, o] S192x128.size (inbP h)).PackedRows (EltTy.packing .bf16) :=
  .inr ⟨by decide, by rfl, .inl ⟨⟨0, by rfl⟩, ⟨96, by rfl⟩⟩⟩

/-- A column slab of the output block holds whole packed rows. -/
theorem packedO {o : Nat} (h : o + 128 ≤ 512) :
    (Rect.unit (s := S192x512) ![0, o] S192x128.size (inbO h)).PackedRows (EltTy.packing .bf16) :=
  .inr ⟨by decide, by rfl, .inl ⟨⟨0, by rfl⟩, ⟨96, by rfl⟩⟩⟩

/-! ## The values the body computes -/

/-- The lane number. -/
def laneV : IVec S192x128 32 := iota .tc S192x128 32 [1] iota_S192x128_d1_w32

/-- The remainder of `v` by `d`, of the divisor's sign (the divisor 0 read as 1). -/
def modV (v : IVec S192x128 32) (d : BitVec 32) : IVec S192x128 32 :=
  let d' : BitVec 32 := Scalar.select (Scalar.cmpi .eq d 0#32) 1#32 d
  let r := remsi v (broadcast S192x128 d')
  select (andi (xori (cmpi .slt r (broadcast S192x128 0#32)) (broadcastTo S192x128 (broadcast S192x128 (Scalar.cmpi .slt d' 0#32)) broadcasts_S192x128_S192x128)) (cmpi .ne r (broadcast S192x128 0#32)))
    (addi r (broadcast S192x128 d')) r

/-- Twice the lane number, modulo 128. -/
def twiceV : IVec S192x128 32 := modV (muli laneV (broadcast S192x128 2#32)) 128#32

/-- The lanes of the low half. -/
def lowV : IVec S192x128 1 := cmpi .slt laneV (broadcast S192x128 64#32)

/-- A lane index, a negative one counted from the end. -/
def wrapV (v : IVec S192x128 32) : IVec S192x128 32 :=
  shapeCast S192x128 (shapeCast S192x128x1 (select (cmpi .slt v (broadcast S192x128 0#32)) (addi v (broadcast S192x128 128#32)) v) shapeCasts_S192x128_S192x128x1) shapeCasts_S192x128x1_S192x128

/-- A loaded slab of activations, widened. -/
def wideV (a : Vec F S192x128 .bf16) : FVec F S192x128 .f32 :=
  extf .f32 (shapeCast S192x128 (a : FVec F S192x128 .bf16) shapeCasts_S192x128_S192x128) bitsLt_bf16_f32

/-- The columns of parity `o` of a group's two slabs. -/
def permV (o : BitVec 32) (a b : Vec F S192x128 .bf16) : FVec F S192x128 .bf16 :=
  shapeCast S192x128
    (truncf .bf16 (select lowV (dynamicGather 1 (wideV a) (wrapV (addi twiceV (broadcast S192x128 o)))) (dynamicGather 1 (wideV b) (wrapV (addi twiceV (broadcast S192x128 o))))) bitsLt_bf16_f32 : FVec F S192x128 .bf16)
    shapeCasts_S192x128_S192x128

/-- The last slab's columns, the even ones in the low half of the lanes and the odd ones in the high half. -/
def permTailV (a : Vec F S192x128 .bf16) : FVec F S192x128 .bf16 :=
  shapeCast S192x128
    (truncf .bf16 (dynamicGather 1 (wideV a) (wrapV (select lowV twiceV (addi twiceV (broadcast S192x128 1#32))))) bitsLt_bf16_f32 : FVec F S192x128 .bf16)
    shapeCasts_S192x128_S192x128

/-- A slab of zeros. -/
def zerosV : FVec F S192x128 .bf16 :=
  shapeCast S192x128 (broadcast S192x128 (Scalar.ofBits .bf16 0x0000#16 : F .bf16) : FVec F S192x128 .bf16) shapeCasts_S192x128_S192x128

/-- The complement of a group's weight codes, four rows to a word. -/
def codesV (w : Vec F S256x128 .i8) : IVec S64x128 32 :=
  xori (bitcast S64x128 32 w bitcasts_S256x128_w8_S64x128_w32) (constantI S64x128 32 4294967295#32)

/-- The top two bits of each half word, read as a 16-bit float. -/
def tileV (v : IVec S64x128 32) : FVec F S128x128 .bf16 :=
  bitcastToFloat .bf16 (bitcast S128x128 16 (andi v (broadcast S64x128 3221274624#32)) bitcasts_S64x128_w32_S128x128_w16)

/-- A field's weights of a group: the even rows, then the odd rows. -/
def colV (a b : IVec S64x128 32) : FVec F S256x128 .bf16 :=
  concatenate S256x128 0 [⟨S128x128, tileV a⟩, ⟨S128x128, tileV b⟩] concatenates_S128x128_S128x128_S256x128_d0

/-- A group's codes shifted up. -/
def shlV (v : IVec S64x128 32) (s : BitVec 32) : IVec S64x128 32 := shli v (broadcast S64x128 s)

/-- The tile of fields 0 and 1 of a group. -/
def rhs0V (w : Vec F S256x128 .i8) : FVec F S256x256 .bf16 :=
  concatenate S256x256 1 [⟨S256x128, colV (shlV (codesV w) 14#32) (shlV (codesV w) 6#32)⟩, ⟨S256x128, colV (shlV (codesV w) 12#32) (shlV (codesV w) 4#32)⟩] concatenates_S256x128_S256x128_S256x256_d1

/-- The tile of fields 2 and 3 of a group. -/
def rhs1V (w : Vec F S256x128 .i8) : FVec F S256x256 .bf16 :=
  concatenate S256x256 1 [⟨S256x128, colV (shlV (codesV w) 10#32) (shlV (codesV w) 2#32)⟩, ⟨S256x128, colV (shlV (codesV w) 8#32) (codesV w)⟩] concatenates_S256x128_S256x128_S256x256_d1

/-- The complement of the last group's weight codes. -/
def codesTV (w : Vec F S128x128 .i8) : IVec S32x128 32 :=
  xori (bitcast S32x128 32 w bitcasts_S128x128_w8_S32x128_w32) (constantI S32x128 32 4294967295#32)

/-- The top two bits of each half word of the last group. -/
def tileTV (v : IVec S32x128 32) : FVec F S64x128 .bf16 :=
  bitcastToFloat .bf16 (bitcast S64x128 16 (andi v (broadcast S32x128 3221274624#32)) bitcasts_S32x128_w32_S64x128_w16)

/-- A field's weights of the last group. -/
def colTV (a b : IVec S32x128 32) : FVec F S128x128 .bf16 :=
  concatenate S128x128 0 [⟨S64x128, tileTV a⟩, ⟨S64x128, tileTV b⟩] concatenates_S64x128_S64x128_S128x128_d0

/-- The last group's codes shifted up. -/
def shlTV (v : IVec S32x128 32) (s : BitVec 32) : IVec S32x128 32 := shli v (broadcast S32x128 s)

/-- Half a tile filled up with zero rows. -/
def padV (v : FVec F S128x256 .bf16) : FVec F S256x256 .bf16 :=
  concatenate S256x256 0 [⟨S128x256, v⟩, ⟨S128x256, broadcast S128x256 (Scalar.ofBits .bf16 0x0000#16 : F .bf16)⟩] concatenates_S128x256_S128x256_S256x256_d0

/-- The tile of fields 0 and 1 of the last group. -/
def rhs0TV (w : Vec F S128x128 .i8) : FVec F S256x256 .bf16 :=
  padV (concatenate S128x256 1 [⟨S128x128, colTV (shlTV (codesTV w) 14#32) (shlTV (codesTV w) 6#32)⟩, ⟨S128x128, colTV (shlTV (codesTV w) 12#32) (shlTV (codesTV w) 4#32)⟩] concatenates_S128x128_S128x128_S128x256_d1)

/-- The tile of fields 2 and 3 of the last group. -/
def rhs1TV (w : Vec F S128x128 .i8) : FVec F S256x256 .bf16 :=
  padV (concatenate S128x256 1 [⟨S128x128, colTV (shlTV (codesTV w) 10#32) (shlTV (codesTV w) 2#32)⟩, ⟨S128x128, colTV (shlTV (codesTV w) 8#32) (codesTV w)⟩] concatenates_S128x128_S128x128_S128x256_d1)

/-- One accumulator scaled and narrowed. -/
def scaledV (s : F .f32) (a : FVec F S192x256 .f32) : FVec F S192x256 .bf16 :=
  truncf .bf16 (mulf a (broadcast S192x256 (Scalar.mulf s (Scalar.ofBits .f32 0x3F000000#32)))) bitsLt_bf16_f32

/-- Its left 128 columns, widened. -/
def leftV (a : FVec F S192x256 .bf16) : FVec F S192x128 .f32 :=
  extf .f32 (extractStridedSlice S192x128 ![0, 0] a slices_S192x256_o0_0_S192x128) bitsLt_bf16_f32

/-- Its right 128 columns, widened. -/
def rightV (a : FVec F S192x256 .bf16) : FVec F S192x128 .f32 :=
  extf .f32 (extractStridedSlice S192x128 ![0, 128] a slices_S192x256_o0_128_S192x128) bitsLt_bf16_f32

/-- The lane number over four, rounded down. -/
def quartV : IVec S192x128 32 :=
  let q := divsi laneV (broadcast S192x128 4#32)
  select (andi (cmpi .ne (subi (extui 32 (cmpi .sgt laneV (broadcast S192x128 0#32)) natLt_1_32) (extui 32 (cmpi .slt laneV (broadcast S192x128 0#32)) natLt_1_32))
        (broadcast S192x128 (Scalar.subi (Scalar.extui (Scalar.cmpi .sgt 4#32 0#32)) (Scalar.extui (Scalar.cmpi .slt 4#32 0#32)))))
      (cmpi .ne (remsi laneV (broadcast S192x128 4#32)) (broadcast S192x128 0#32)))
    (subi q (broadcast S192x128 1#32)) q

/-- The lane number modulo four. -/
def whichV : IVec S192x128 32 := modV laneV 4#32

/-- An output tile: lane `l` is the field `l % 4` at column `l / 4` past `o`. -/
def outV (o : BitVec 32) (f0 f1 f2 f3 : FVec F S192x128 .f32) : FVec F S192x128 .bf16 :=
  truncf .bf16
    (select (cmpi .eq whichV (broadcast S192x128 0#32)) (dynamicGather 1 f0 (wrapV (addi quartV (broadcast S192x128 o))))
      (select (cmpi .eq whichV (broadcast S192x128 1#32)) (dynamicGather 1 f1 (wrapV (addi quartV (broadcast S192x128 o))))
        (select (cmpi .eq whichV (broadcast S192x128 2#32)) (dynamicGather 1 f2 (wrapV (addi quartV (broadcast S192x128 o))))
          (dynamicGather 1 f3 (wrapV (addi quartV (broadcast S192x128 o))))))) bitsLt_bf16_f32

/-! ## The program -/

section Prog

variable (arg1 : Memref sig .tc .smem S1 .f32) (arg2 : Memref sig .tc .vmem S192x9856 .bf16) (arg3 : Memref sig .tc .vmem S9856x128 .i8)
  (arg4 : Memref sig .tc .vmem S192x512 .bf16) (harg4 : arg4.IsWhole) (arg5 : Memref sig .tc .vmem S192x9984 .bf16) (harg5 : arg5.IsWhole)

/-- Load 128 columns of the activations. -/
def ldX (o : Nat) (h : o + 128 ≤ 9856) : Prog (TpuEff nD τ sig (Elt F) Λ₀ .tc) (Vec F S192x128 .bf16) :=
  Prog.lift (.load arg2 (Rect.unit (s := S192x9856) ![0, o] S192x128.size (inbX h)).toLoadRect (View.loadsAt_vmem h_S192x128))

/-- Store 128 columns of the scratch, loading them first. -/
def stP (o : Nat) (h : o + 128 ≤ 9984) (v : FVec F S192x128 .bf16) : Prog (TpuEff nD τ sig (Elt F) Λ₀ .tc) PUnit := do
  let _ : Vec F S192x128 .bf16 ← Prog.lift (.load arg5 (Rect.unit (s := S192x9984) ![0, o] S192x128.size (inbP h)).toLoadRect (View.loadsAt_vmem h_S192x128))
  Prog.lift (.store arg5 (Rect.unit (s := S192x9984) ![0, o] S192x128.size (inbP h)) v Finset.univ (View.stores_vmem h_S192x128 (harg5.storeExact_slice rfl _ (packedP h)) (fun _ => rfl)) (.inl rfl))

/-- Store 128 columns of the output block, loading them first. -/
def stO (o : Nat) (h : o + 128 ≤ 512) (v : FVec F S192x128 .bf16) : Prog (TpuEff nD τ sig (Elt F) Λ₀ .tc) PUnit := do
  let _ : Vec F S192x128 .bf16 ← Prog.lift (.load arg4 (Rect.unit (s := S192x512) ![0, o] S192x128.size (inbO h)).toLoadRect (View.loadsAt_vmem h_S192x128))
  Prog.lift (.store arg4 (Rect.unit (s := S192x512) ![0, o] S192x128.size (inbO h)) v Finset.univ (View.stores_vmem h_S192x128 (harg4.storeExact_slice rfl _ (packedO h)) (fun _ => rfl)) (.inl rfl))

/-- Permute one group of 256 columns. -/
def permStep (g : Nat) (h : g < 38) : Prog (TpuEff nD τ sig (Elt F) Λ₀ .tc) PUnit := do
  let a ← ldX arg2 (256 * g) (by omega)
  let b ← ldX arg2 (256 * g + 128) (by omega)
  stP arg5 harg5 (256 * g) (by omega) (permV 0#32 a b)
  stP arg5 harg5 (256 * g + 128) (by omega) (permV 1#32 a b)

/-- Permute `n` groups from group `g`. -/
def permSteps : (n g : Nat) → g + n ≤ 38 → Prog (TpuEff nD τ sig (Elt F) Λ₀ .tc) PUnit
  | 0, _, _ => pure ⟨⟩
  | n + 1, g, h => do
    permStep arg2 arg5 harg5 g (by omega)
    permSteps n (g + 1) (by omega)

/-- Permute the whole of the activations into the scratch. -/
def permAll : Prog (TpuEff nD τ sig (Elt F) Λ₀ .tc) PUnit := do
  permSteps arg2 arg5 harg5 38 0 (by omega)
  let a ← ldX arg2 9728 (by omega)
  stP arg5 harg5 9728 (by omega) (permTailV a)
  stP arg5 harg5 9856 (by omega) zerosV

/-- The products of one group: a pass on each of the two units. -/
def groupStep (g : Nat) (h : g < 38) (u : Mxu F) : Prog (TpuEff nD τ sig (Elt F) Λ₀ .tc) (Mxu F) := do
  let w : Vec F S256x128 .i8 ← Prog.lift (.load arg3 (Rect.unit (s := S9856x128) ![256 * g, 0] S256x128.size (inbW (by omega))).toLoadRect (View.loadsAt_vmem h_S256x128))
  let x : Vec F S192x256 .bf16 ← Prog.lift (.load arg5 (Rect.unit (s := S192x9984) ![0, 256 * g] S192x256.size (inbQ (by omega))).toLoadRect (View.loadsAt_vmem h_S192x256))
  let u1 ← u.pushRhs 0 (Fin.ofNat 2 g) false (rhs0V w)
  let u2 ← (u1.accLhs 0 (Fin.ofNat 2 g) 0 (x : FVec F S192x256 .bf16) fits_0_192).pushRhs 1 (Fin.ofNat 2 g) false (rhs1V w)
  pure (u2.accLhs 1 (Fin.ofNat 2 g) 0 (x : FVec F S192x256 .bf16) fits_0_192)

/-- The products of `n` groups from group `g`. -/
def groupSteps : (n g : Nat) → g + n ≤ 38 → Mxu F → Prog (TpuEff nD τ sig (Elt F) Λ₀ .tc) (Mxu F)
  | 0, _, _, u => pure u
  | n + 1, g, h, u => do
    let u' ← groupStep arg3 arg5 g (by omega) u
    groupSteps n (g + 1) (by omega) u'

/-- The products of the last, half group. -/
def groupTail (u : Mxu F) : Prog (TpuEff nD τ sig (Elt F) Λ₀ .tc) (Mxu F) := do
  let w : Vec F S128x128 .i8 ← Prog.lift (.load arg3 (Rect.unit (s := S9856x128) ![9728, 0] S128x128.size inb_S9856x128_S128x128_9728_0).toLoadRect (View.loadsAt_vmem h_S128x128))
  let x : Vec F S192x256 .bf16 ← Prog.lift (.load arg5 (Rect.unit (s := S192x9984) ![0, 9728] S192x256.size (inbQ (by omega))).toLoadRect (View.loadsAt_vmem h_S192x256))
  let u1 ← u.pushRhs 0 0 false (rhs0TV w)
  let u2 ← (u1.accLhs 0 0 0 (x : FVec F S192x256 .bf16) fits_0_192).pushRhs 1 0 false (rhs1TV w)
  pure (u2.accLhs 1 0 0 (x : FVec F S192x256 .bf16) fits_0_192)

/-- Read the accumulators, scale, and store the output block's four tiles. -/
def finish (u : Mxu F) : Prog (TpuEff nD τ sig (Elt F) Λ₀ .tc) PUnit := do
  let s : Elt F .f32 ← smemLoad arg1 (Rect.unit (s := S1) ![0] S1.size inb_S1_S1_0) numel1_S1 rfl
  let p := scaledV (s : F .f32) (u.read 0 0 fits_0_192)
  let u1 := u.pop 0 0 192 fits_0_192
  let q := scaledV (s : F .f32) (u1.read 1 0 fits_0_192)
  let u2 := u1.pop 1 0 192 fits_0_192
  stO arg4 harg4 0 (by omega) (outV 0#32 (leftV p) (rightV p) (leftV q) (rightV q))
  stO arg4 harg4 128 (by omega) (outV 32#32 (leftV p) (rightV p) (leftV q) (rightV q))
  stO arg4 harg4 256 (by omega) (outV 64#32 (leftV p) (rightV p) (leftV q) (rightV q))
  stO arg4 harg4 384 (by omega) (outV 96#32 (leftV p) (rightV p) (leftV q) (rightV q))
  u2.exit
  pure ⟨⟩

/-- Whether this is the first grid point, as the body tests it. -/
def isFirst (i : grid0.Coords) : BitVec 1 :=
  Scalar.cmpi .ne (Scalar.extui (Scalar.cmpi .eq (BitVec.ofNat 32 (i 0).val) 0#32) : BitVec 32) 0#32

/-- The products and the output, from the matrix units' state after `enter`. -/
def rest (u : Mxu F) : Prog (TpuEff nD τ sig (Elt F) Λ₀ .tc) PUnit := do
  let u' ← groupSteps arg3 arg5 38 0 (by omega) u
  let u'' ← groupTail arg3 arg5 u'
  finish arg1 arg4 harg4 u''

end Prog

/-- The first group's weights, the matrix units' state passed on. -/
def window (arg3 : Memref sig .tc .vmem S9856x128 .i8) (u : Mxu F) :
    Prog (TpuEff nD τ sig (Elt F) Λ₀ .tc) (Σ' (_ : Mxu F) (_ : IVec S64x128 32) (_ : FVec F S256x128 .bf16) (_ : FVec F S256x128 .bf16) (_ : FVec F S256x128 .bf16), BitVec 32) := do
  let w : Vec F S256x128 .i8 ← Prog.lift (.load arg3 (Rect.unit (s := S9856x128) ![0, 0] S256x128.size inb_S9856x128_S256x128_0_0).toLoadRect (View.loadsAt_vmem h_S256x128))
  pure ⟨u, codesV w, colV (shlV (codesV w) 14#32) (shlV (codesV w) 6#32), colV (shlV (codesV w) 12#32) (shlV (codesV w) 4#32), colV (shlV (codesV w) 10#32) (shlV (codesV w) 2#32), 8#32⟩

/-- The printed body's first window: at the first grid point the permutation and the pops, then the first group's weights. -/
theorem part52_eq (i : grid0.Coords) (arg1 : Memref sig .tc .smem S1 .f32) (harg1 : arg1.IsWhole)
    (arg2 : Memref sig .tc .vmem S192x9856 .bf16) (harg2 : arg2.IsWhole) (arg3 : Memref sig .tc .vmem S9856x128 .i8) (harg3 : arg3.IsWhole)
    (arg4 : Memref sig .tc .vmem S192x512 .bf16) (harg4 : arg4.IsWhole) (arg5 : Memref sig .tc .vmem S192x9984 .bf16) (harg5 : arg5.IsWhole) :
    k0_part52 (F := F) i arg1 harg1 arg2 harg2 arg3 harg3 arg4 harg4 arg5 harg5
      = if isFirst i = 1#1 then (permAll arg2 arg5 harg5 >>= fun _ => window arg3 ((Mxu.init.pop 0 0 192 fits_0_192).pop 1 0 192 fits_0_192))
        else window arg3 Mxu.init := by
  chain_rfl

/-- At the first grid point the printed body is the permutation, then `rest`. -/
theorem body_first (i : grid0.Coords) (arg1 : Memref sig .tc .smem S1 .f32) (harg1 : arg1.IsWhole)
    (arg2 : Memref sig .tc .vmem S192x9856 .bf16) (harg2 : arg2.IsWhole) (arg3 : Memref sig .tc .vmem S9856x128 .i8) (harg3 : arg3.IsWhole)
    (arg4 : Memref sig .tc .vmem S192x512 .bf16) (harg4 : arg4.IsWhole) (arg5 : Memref sig .tc .vmem S192x9984 .bf16) (harg5 : arg5.IsWhole) (h : isFirst i = 1#1) :
    cc0_ternary_linear (F := F) i arg1 harg1 arg2 harg2 arg3 harg3 arg4 harg4 arg5 harg5
      = (permAll arg2 arg5 harg5 >>= fun _ =>
          rest arg1 arg3 arg4 harg4 arg5 ((Mxu.init.pop 0 0 192 fits_0_192).pop 1 0 192 fits_0_192)) := by
  delta cc0_ternary_linear k0_part104
  rw [part52_eq, if_pos h]
  chain_rfl

/-- At the other grid points it is `rest` alone. -/
theorem body_other (i : grid0.Coords) (arg1 : Memref sig .tc .smem S1 .f32) (harg1 : arg1.IsWhole)
    (arg2 : Memref sig .tc .vmem S192x9856 .bf16) (harg2 : arg2.IsWhole) (arg3 : Memref sig .tc .vmem S9856x128 .i8) (harg3 : arg3.IsWhole)
    (arg4 : Memref sig .tc .vmem S192x512 .bf16) (harg4 : arg4.IsWhole) (arg5 : Memref sig .tc .vmem S192x9984 .bf16) (harg5 : arg5.IsWhole) (h : ¬ isFirst i = 1#1) :
    cc0_ternary_linear (F := F) i arg1 harg1 arg2 harg2 arg3 harg3 arg4 harg4 arg5 harg5
      = rest arg1 arg3 arg4 harg4 arg5 Mxu.init := by
  delta cc0_ternary_linear k0_part104
  rw [part52_eq, if_neg h]
  chain_rfl

end Cert.KernelIdeal.Gen
-- ==== Proof.Steps.lean ====
module

public import proofs.«01_k».proof.Proof.Body

/-! What the body's steps do to the memory they hold, each a rule over `owns`. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F]

local notation "𝕄" => MT nD τ sig Unit (Elt F) ℕ (UR sig nD τ) ℕ

/-! ## Values over whole buffers -/

/-- 128 columns of the activations from column `o`. -/
def slabX (X : Vec F S192x9856 .bf16) (o : Nat) (h : o + 128 ≤ 9856) : Vec F S192x128 .bf16 :=
  fun i => X ((Rect.unit (s := S192x9856) ![0, o] S192x128.size (inbX h)).toLoadRect.idx i)

/-- 256 columns of the scratch from column `o`. -/
def slabP (P : Vec F S192x9984 .bf16) (o : Nat) (h : o + 256 ≤ 9984) : Vec F S192x256 .bf16 :=
  fun i => P ((Rect.unit (s := S192x9984) ![0, o] S192x256.size (inbQ h)).toLoadRect.idx i)

/-- 256 rows of the weight block from row `o`. -/
def slabW (W : Vec F S9856x128 .i8) (o : Nat) (h : o + 256 ≤ 9856) : Vec F S256x128 .i8 :=
  fun i => W ((Rect.unit (s := S9856x128) ![o, 0] S256x128.size (inbW h)).toLoadRect.idx i)

/-- The last 128 rows of the weight block. -/
def slabWT (W : Vec F S9856x128 .i8) : Vec F S128x128 .i8 :=
  fun i => W ((Rect.unit (s := S9856x128) ![9728, 0] S128x128.size inb_S9856x128_S128x128_9728_0).toLoadRect.idx i)

/-- The permuted activations, column by column. -/
def permX (X : Vec F S192x9856 .bf16) : Vec F S192x9984 .bf16 := fun y =>
  if hj : (y 1).val < 9728 then
    permV (BitVec.ofNat 32 ((y 1).val % 256 / 128))
      (slabX X (256 * ((y 1).val / 256)) (by omega)) (slabX X (256 * ((y 1).val / 256) + 128) (by omega))
      (Mxu.ix (y 0) ⟨(y 1).val % 128, Nat.mod_lt _ (by decide)⟩)
  else if (y 1).val < 9856 then
    permTailV (slabX X 9728 (by omega)) (Mxu.ix (y 0) ⟨(y 1).val % 128, Nat.mod_lt _ (by decide)⟩)
  else zerosV (Mxu.ix (y 0) ⟨(y 1).val % 128, Nat.mod_lt _ (by decide)⟩)

/-- The two passes of a group on the matrix units' state. -/
def mxuStep (W : Vec F S9856x128 .i8) (P : Vec F S192x9984 .bf16) (g : Nat) (h : g < 38) (u : Mxu F) : Mxu F :=
  let u' := Mxu.pushAcc 0 (Fin.ofNat 2 g) false 0 fits_0_192 u (rhs0V (slabW W (256 * g) (by omega))) (slabP P (256 * g) (by omega) : FVec F S192x256 .bf16)
  Mxu.pushAcc 1 (Fin.ofNat 2 g) false 0 fits_0_192 u' (rhs1V (slabW W (256 * g) (by omega))) (slabP P (256 * g) (by omega) : FVec F S192x256 .bf16)

/-- The passes of `n` groups from group `g`. -/
def mxuSteps (W : Vec F S9856x128 .i8) (P : Vec F S192x9984 .bf16) : (n g : Nat) → g + n ≤ 38 → Mxu F → Mxu F
  | 0, _, _, u => u
  | n + 1, g, h, u => mxuSteps W P n (g + 1) (by omega) (mxuStep W P g (by omega) u)

/-- The two passes of the last group. -/
def mxuTail (W : Vec F S9856x128 .i8) (P : Vec F S192x9984 .bf16) (u : Mxu F) : Mxu F :=
  let u' := Mxu.pushAcc 0 0 false 0 fits_0_192 u (rhs0TV (slabWT W)) (slabP P 9728 (by omega) : FVec F S192x256 .bf16)
  Mxu.pushAcc 1 0 false 0 fits_0_192 u' (rhs1TV (slabWT W)) (slabP P 9728 (by omega) : FVec F S192x256 .bf16)

/-- The state of the matrix units after all the passes. -/
def mxuAll (W : Vec F S9856x128 .i8) (P : Vec F S192x9984 .bf16) : Mxu F :=
  mxuTail W P (mxuSteps W P 38 0 (by omega) Mxu.init)

/-- The output block from the two accumulators, column by column. -/
def outBlk (s : F .f32) (a b : FVec F S192x256 .f32) : Vec F S192x512 .bf16 := fun y =>
  outV (BitVec.ofNat 32 (32 * ((y 1).val / 128))) (leftV (scaledV s a)) (rightV (scaledV s a)) (leftV (scaledV s b)) (rightV (scaledV s b))
    (Mxu.ix (y 0) ⟨(y 1).val % 128, Nat.mod_lt _ (by decide)⟩)

/-- No register holds a tile, and the live rows are among the first 192. -/
structure Calm (u : Mxu F) : Prop where
  reg : ∀ q r, u.reg q r = none
  live : ∀ q (R : Fin 1024), 192 ≤ R.val → u.live q R = false

/-- The state the units start in. -/
theorem calm_init : Calm (Mxu.init (F := F)) := ⟨fun _ _ => rfl, fun _ _ _ => rfl⟩

/-- A pass from the register it fills keeps the registers empty. -/
theorem calm_pushAcc {u : Mxu F} (hu : Calm u) (q r : Fin 2) {φ₁ φ₂ : FTy} (v : FVec F (Mxu.STile 256) φ₁) (x : FVec F (Mxu.STile 192) φ₂) :
    Calm (Mxu.pushAcc q r false 0 fits_0_192 u v x) where
  reg q' r' := by
    by_cases hq : q' = q ∧ r' = r
    · obtain ⟨rfl, rfl⟩ := hq
      exact Mxu.reg_pushAcc _ _ _ _ _ _ _ _
    · unfold Mxu.pushAcc
      rw [Mxu.reg_accLhs_ne _ _ _ _ _ _ _ _ hq, Mxu.reg_pushed_ne _ _ _ _ _ _ _ hq, hu.reg]
  live q' R hR := by
    unfold Mxu.pushAcc
    rw [Mxu.live_accLhs, if_neg (by omega), Mxu.live_pushed, hu.live q' R hR]

/-- One group's passes keep the registers empty. -/
theorem calm_mxuStep (W : Vec F S9856x128 .i8) (P : Vec F S192x9984 .bf16) (g : Nat) (h : g < 38) {u : Mxu F} (hu : Calm u) :
    Calm (mxuStep W P g h u) := calm_pushAcc (calm_pushAcc hu _ _ _ _) _ _ _ _

/-- So do those of any number of groups. -/
theorem calm_mxuSteps (W : Vec F S9856x128 .i8) (P : Vec F S192x9984 .bf16) :
    ∀ (n g : Nat) (h : g + n ≤ 38) (u : Mxu F), Calm u → Calm (mxuSteps W P n g h u)
  | 0, _, _, _, hu => hu
  | n + 1, g, h, u, hu => calm_mxuSteps W P n (g + 1) _ _ (calm_mxuStep W P g _ hu)

/-- So do the passes of the last, shorter group. -/
theorem calm_mxuTail (W : Vec F S9856x128 .i8) (P : Vec F S192x9984 .bf16) {u : Mxu F} (hu : Calm u) :
    Calm (mxuTail W P u) := calm_pushAcc (calm_pushAcc hu _ _ _ _) _ _ _ _

/-- Popping both accumulators of a calm state drains it. -/
theorem drained_pops {u : Mxu F} (hu : Calm u) : ((u.pop 0 0 192 fits_0_192).pop 1 0 192 fits_0_192).Drained := by
  refine ⟨fun q r => by show (u.reg q r).isNone = true; rw [hu.reg]; rfl, fun q R => ?_⟩
  rw [Mxu.live_pop, Mxu.live_pop]
  by_cases hR : 192 ≤ R.val
  · rw [hu.live q R hR]; simp
  · have hq : q = 0 ∨ q = 1 := by omega
    rcases hq with rfl | rfl
    · rw [if_neg (fun h => absurd h.1 (by decide)), if_pos (by omega)]
    · rw [if_pos (by omega)]

/-- Popping both accumulators of the initial state changes nothing. -/
theorem pops_init : ((Mxu.init (F := F)).pop 0 0 192 fits_0_192).pop 1 0 192 fits_0_192 = Mxu.init :=
  Mxu.eq_init_of_drained (drained_pops calm_init)

/-! ## Loads and stores -/

section Rules

variable {defs : Defs nD τ sig (Elt F) Λ₀} (c : Dev nD) (E : Set ℕ) {α : Type}

/-- A load from a memref held reads its part of what the memref reads. -/
theorem owns_load {sp : CoreSpace} {sh : Shape} {e : EltTy} {m : Memref sig .tc sp sh e} {r : LoadRect sh} {hl : m.view.LoadsAt r}
    {Q : α → sProp 𝕄} {k : (r.shape.Idx → Elt F e) → Prog (TpuEff nD τ sig (Elt F) Λ₀ .tc) α} {q : PosShare TreeShare} {X : sh.Idx → Elt F e} :
    (owns (c : Thread nD τ) m q X : sProp 𝕄)
      ⊢ iprop((owns (c : Thread nD τ) m q X -∗ wp frame (wpE defs Variants.none c none) E (k fun i => X (r.idx i)) Q)
        -∗ wp frame (wpE defs Variants.none c none) E (.op (.load m r hl) k) Q) := by
  unfold owns
  iintro ⟨%f, %hf, H⟩ K
  subst hf
  ihave H' := (wp_load Variants.none (c : Thread nD τ) none E (m := m) (r := r) (hl := hl) (k := k) (Q := Q) (defs := defs) (View.setOn_subset_set _ _)) $$ H
  iapply H'
  iintro H
  iapply K
  iexists f
  isplitr
  · ipureintro; rfl
  · iexact H

/-- A store to a memref held replaces its rectangle's part. -/
theorem owns_store {sp : CoreSpace} {sh : Shape} {e : EltTy} {m : Memref sig .tc sp sh e} {r : Rect sh} {w : r.shape.Idx → Elt F e}
    {hx : (m.access r).Stores Finset.univ} {hm : (Finset.univ : Finset r.shape.Idx) = Finset.univ ∨ ∀ a, r.stride a = 1}
    {Q : α → sProp 𝕄} {k : PUnit → Prog (TpuEff nD τ sig (Elt F) Λ₀ .tc) α} {X : sh.Idx → Elt F e} :
    (owns (c : Thread nD τ) m fullShare X : sProp 𝕄)
      ⊢ iprop((owns (c : Thread nD τ) m fullShare (r.overlay X w) -∗ wp frame (wpE defs Variants.none c none) E (k ⟨⟩) Q)
        -∗ wp frame (wpE defs Variants.none c none) E (.op (.store m r w Finset.univ hx hm) k) Q) := by
  unfold owns
  iintro ⟨%f, %hf, H⟩ K
  subst hf
  have hread : m.view.read (Elt F) ((m.access r).write (Elt F) f w Finset.univ) = r.overlay (m.view.read (Elt F) f) w := by
    funext y
    by_cases hy : y ∈ r.set
    · obtain ⟨x, rfl⟩ := r.exists_idx_of_mem hy
      exact (View.read_slice_write_emb r f w (Finset.mem_univ x)).trans (Rect.overlay_emb r _ w x).symm
    · rw [Rect.overlay_of_not_mem _ _ _ hy]
      exact View.read_slice_write_of_not_mem r f w Finset.univ (by rw [Rect.map_emb_univ]; exact hy)
  ihave H' := (wp_store Variants.none (c : Thread nD τ) none E (m := m) (r := r) (w := w) (hx := hx) (hm := hm) (k := k) (Q := Q) (defs := defs) (S := m.view.set) (f := f)
    (View.setOn_subset_set _ _ |>.trans (View.set_slice_subset _ _))) $$ H
  iapply H'
  iintro H
  iapply K
  iexists _
  isplitr
  · ipureintro; exact hread
  · iexact H

end Rules

end Cert.KernelIdeal.Gen
-- ==== Proof.Rules.lean ====
module

public import proofs.«01_k».proof.Proof.Steps

/-! The rules of the body's steps and of the whole body: the activations permuted at the first grid point, the
    output block written from the accumulators of all the passes. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F]

local notation "𝕄" => MT nD τ sig Unit (Elt F) ℕ (UR sig nD τ) ℕ

/-! ## Column slabs -/

/-- An index of a column slab, as an index of the whole. -/
theorem emb_col {n : Nat} {o : Nat} {inb : ∀ a, (![0, o] : Fin 2 → Nat) a + S192x128.size a ≤ (⟨2, ![192, n]⟩ : Shape).size a} (x : S192x128.Idx) :
    (((Rect.unit (s := ⟨2, ![192, n]⟩) ![0, o] S192x128.size inb).emb x) 0).val = (x 0).val
      ∧ (((Rect.unit (s := ⟨2, ![192, n]⟩) ![0, o] S192x128.size inb).emb x) 1).val = o + (x 1).val := by
  constructor
  · show 0 + 1 * (x 0).val = (x 0).val; omega
  · show o + 1 * (x 1).val = o + (x 1).val; omega

/-- An index whose column is past the slab's start and not past its end is one of the slab. -/
theorem exists_col {n : Nat} {o : Nat} {inb : ∀ a, (![0, o] : Fin 2 → Nat) a + S192x128.size a ≤ (⟨2, ![192, n]⟩ : Shape).size a}
    (y : (⟨2, ![192, n]⟩ : Shape).Idx) (h1 : o ≤ (y 1).val) (h2 : (y 1).val < o + 128) :
    y = (Rect.unit (s := ⟨2, ![192, n]⟩) ![0, o] S192x128.size inb).emb (Mxu.ix (y 0) ⟨(y 1).val - o, by omega⟩ : S192x128.Idx) := by
  funext a
  match a with
  | 0 => exact Fin.ext (by show (y 0).val = 0 + 1 * (y 0).val; omega)
  | 1 => exact Fin.ext (by show (y 1).val = o + 1 * ((y 1).val - o); omega)

/-- A column slab replaced: the new value in its columns, -/
theorem overlay_in {n : Nat} {α : Type} {o : Nat} {inb : ∀ a, (![0, o] : Fin 2 → Nat) a + S192x128.size a ≤ (⟨2, ![192, n]⟩ : Shape).size a}
    (S : (⟨2, ![192, n]⟩ : Shape).Idx → α) (w : S192x128.Idx → α) (y : (⟨2, ![192, n]⟩ : Shape).Idx) (h1 : o ≤ (y 1).val) (h2 : (y 1).val < o + 128) :
    (Rect.unit (s := ⟨2, ![192, n]⟩) ![0, o] S192x128.size inb).overlay S w y = w (Mxu.ix (y 0) ⟨(y 1).val - o, by omega⟩) := by
  conv_lhs => rw [exists_col (inb := inb) y h1 h2]
  exact Rect.overlay_emb (Rect.unit (s := ⟨2, ![192, n]⟩) ![0, o] S192x128.size inb) S w _

/-- and the old one in the others. -/
theorem overlay_out {n : Nat} {α : Type} {o : Nat} {inb : ∀ a, (![0, o] : Fin 2 → Nat) a + S192x128.size a ≤ (⟨2, ![192, n]⟩ : Shape).size a}
    (S : (⟨2, ![192, n]⟩ : Shape).Idx → α) (w : S192x128.Idx → α) (y : (⟨2, ![192, n]⟩ : Shape).Idx) (h : (y 1).val < o ∨ o + 128 ≤ (y 1).val) :
    (Rect.unit (s := ⟨2, ![192, n]⟩) ![0, o] S192x128.size inb).overlay S w y = S y := by
  refine Rect.overlay_of_not_mem (Rect.unit (s := ⟨2, ![192, n]⟩) ![0, o] S192x128.size inb) S w fun hm => ?_
  obtain ⟨x, rfl⟩ := LoadRect.exists_idx_of_mem _ hm
  have hx : (x 1).val < 128 := (x 1).isLt
  have := (emb_col (inb := inb) x).2
  have e : (((Rect.unit (s := ⟨2, ![192, n]⟩) ![0, o] S192x128.size inb).idx x) 1).val = o + (x 1).val := this
  omega

/-- The first `j` columns of the scratch hold the permuted activations. -/
def PermTo (X : Vec F S192x9856 .bf16) (j : Nat) (S : Vec F S192x9984 .bf16) : Prop :=
  ∀ y : S192x9984.Idx, (y 1).val < j → S y = permX X y

/-- Replacing the next 128 columns by theirs. -/
theorem permTo_overlay {X : Vec F S192x9856 .bf16} {j : Nat} {S : Vec F S192x9984 .bf16} (hS : PermTo X j S) (h : j + 128 ≤ 9984)
    (w : Vec F S192x128 .bf16) (hw : ∀ y : S192x9984.Idx, (h1 : j ≤ (y 1).val) → (h2 : (y 1).val < j + 128) → w (Mxu.ix (y 0) ⟨(y 1).val - j, by omega⟩) = permX X y) :
    PermTo X (j + 128) ((Rect.unit (s := S192x9984) ![0, j] S192x128.size (inbP h)).overlay S w) := by
  intro y hy
  by_cases h1 : j ≤ (y 1).val
  · exact (overlay_in (inb := inbP h) S w y h1 hy).trans (hw y h1 hy)
  · exact (overlay_out (inb := inbP h) S w y (.inl (by omega))).trans (hS y (by omega))

/-- A group's two slabs are the permuted activations' columns there. -/
theorem permV_eq (X : Vec F S192x9856 .bf16) (g : Nat) (h : g < 38) (o : Nat) (ho : o < 2) (y : S192x9984.Idx)
    (h1 : 256 * g + 128 * o ≤ (y 1).val) (h2 : (y 1).val < 256 * g + 128 * o + 128) :
    permV (BitVec.ofNat 32 o) (slabX X (256 * g) (by omega)) (slabX X (256 * g + 128) (by omega)) (Mxu.ix (y 0) ⟨(y 1).val - (256 * g + 128 * o), by omega⟩)
      = permX X y := by
  obtain rfl : (y 1).val / 256 = g := by omega
  obtain rfl : (y 1).val % 256 / 128 = o := by omega
  have e3 : (y 1).val % 128 = (y 1).val - (256 * ((y 1).val / 256) + 128 * ((y 1).val % 256 / 128)) := by omega
  unfold permX
  rw [dif_pos (show (y 1).val < 9728 by omega)]
  simp only [e3]

section Rules

variable {defs : Defs nD τ sig (Elt F) Λ₀} (c : Dev nD) (E : Set ℕ) {α : Type}
variable (arg1 : Memref sig .tc .smem S1 .f32) (arg2 : Memref sig .tc .vmem S192x9856 .bf16) (arg3 : Memref sig .tc .vmem S9856x128 .i8)
  (arg4 : Memref sig .tc .vmem S192x512 .bf16) (harg4 : arg4.IsWhole) (arg5 : Memref sig .tc .vmem S192x9984 .bf16) (harg5 : arg5.IsWhole)

/-- A load of 128 columns of the activations. -/
theorem wp_ldX {o : Nat} {h : o + 128 ≤ 9856} {Q : α → sProp 𝕄} {X : Vec F S192x9856 .bf16} {k : Vec F S192x128 .bf16 → Prog (TpuEff nD τ sig (Elt F) Λ₀ .tc) α} :
    (owns (c : Thread nD τ) arg2 fullShare X : sProp 𝕄)
      ⊢ iprop((owns (c : Thread nD τ) arg2 fullShare X -∗ wp frame (wpE defs Variants.none c none) E (k (slabX X o h)) Q)
        -∗ wp frame (wpE defs Variants.none c none) E (ldX arg2 o h >>= k) Q) :=
  owns_load (defs := defs) (m := arg2) (r := (Rect.unit (s := S192x9856) ![0, o] S192x128.size (inbX h)).toLoadRect) (hl := View.loadsAt_vmem h_S192x128) (Q := Q) (X := X) (k := k) c E

/-- A store of 128 columns of the scratch. -/
theorem wp_stP {o : Nat} {h : o + 128 ≤ 9984} {v : FVec F S192x128 .bf16} {Q : α → sProp 𝕄} {S : Vec F S192x9984 .bf16} {k : PUnit → Prog (TpuEff nD τ sig (Elt F) Λ₀ .tc) α} :
    (owns (c : Thread nD τ) arg5 fullShare S : sProp 𝕄)
      ⊢ iprop((owns (c : Thread nD τ) arg5 fullShare ((Rect.unit (s := S192x9984) ![0, o] S192x128.size (inbP h)).overlay S v) -∗ wp frame (wpE defs Variants.none c none) E (k ⟨⟩) Q)
        -∗ wp frame (wpE defs Variants.none c none) E (stP arg5 harg5 o h v >>= k) Q) := by
  iintro H K
  ihave H' := (owns_load (defs := defs) (m := arg5) (r := (Rect.unit (s := S192x9984) ![0, o] S192x128.size (inbP h)).toLoadRect) (hl := View.loadsAt_vmem h_S192x128) (Q := Q) (X := S)
    (k := fun _ => .op (.store arg5 (Rect.unit (s := S192x9984) ![0, o] S192x128.size (inbP h)) v Finset.univ (View.stores_vmem h_S192x128 (harg5.storeExact_slice rfl _ (packedP h)) (fun _ => rfl)) (.inl rfl)) k) c E) $$ H
  iapply H'
  iintro H
  ihave H' := (owns_store (defs := defs) (m := arg5) (k := k) (Q := Q) (X := S) (r := Rect.unit (s := S192x9984) ![0, o] S192x128.size (inbP h)) (w := v) (hx := View.stores_vmem h_S192x128 (harg5.storeExact_slice rfl _ (packedP h)) (fun _ => rfl)) (hm := .inl rfl) c E) $$ H
  iapply H'
  iexact K

/-- A store of 128 columns of the output block. -/
theorem wp_stO {o : Nat} {h : o + 128 ≤ 512} {v : FVec F S192x128 .bf16} {Q : α → sProp 𝕄} {S : Vec F S192x512 .bf16} {k : PUnit → Prog (TpuEff nD τ sig (Elt F) Λ₀ .tc) α} :
    (owns (c : Thread nD τ) arg4 fullShare S : sProp 𝕄)
      ⊢ iprop((owns (c : Thread nD τ) arg4 fullShare ((Rect.unit (s := S192x512) ![0, o] S192x128.size (inbO h)).overlay S v) -∗ wp frame (wpE defs Variants.none c none) E (k ⟨⟩) Q)
        -∗ wp frame (wpE defs Variants.none c none) E (stO arg4 harg4 o h v >>= k) Q) := by
  iintro H K
  ihave H' := (owns_load (defs := defs) (m := arg4) (r := (Rect.unit (s := S192x512) ![0, o] S192x128.size (inbO h)).toLoadRect) (hl := View.loadsAt_vmem h_S192x128) (Q := Q) (X := S)
    (k := fun _ => .op (.store arg4 (Rect.unit (s := S192x512) ![0, o] S192x128.size (inbO h)) v Finset.univ (View.stores_vmem h_S192x128 (harg4.storeExact_slice rfl _ (packedO h)) (fun _ => rfl)) (.inl rfl)) k) c E) $$ H
  iapply H'
  iintro H
  ihave H' := (owns_store (defs := defs) (m := arg4) (k := k) (Q := Q) (X := S) (r := Rect.unit (s := S192x512) ![0, o] S192x128.size (inbO h)) (w := v) (hx := View.stores_vmem h_S192x128 (harg4.storeExact_slice rfl _ (packedO h)) (fun _ => rfl)) (hm := .inl rfl) c E) $$ H
  iapply H'
  iexact K

/-- One group permuted. -/
theorem wp_permStep {g : Nat} {h : g < 38} {Q : α → sProp 𝕄} {X : Vec F S192x9856 .bf16} {S : Vec F S192x9984 .bf16} (hS : PermTo X (256 * g) S)
    {k : PUnit → Prog (TpuEff nD τ sig (Elt F) Λ₀ .tc) α} :
    iprop(owns (c : Thread nD τ) arg2 fullShare X ∗ owns (c : Thread nD τ) arg5 fullShare S
        ∗ (∀ S', ⌜PermTo X (256 * (g + 1)) S'⌝ -∗ owns (c : Thread nD τ) arg2 fullShare X -∗ owns (c : Thread nD τ) arg5 fullShare S' -∗ wp frame (wpE defs Variants.none c none) E (k ⟨⟩) Q))
      ⊢ wp frame (wpE defs Variants.none c none) E (permStep arg2 arg5 harg5 g h >>= k) Q := by
  unfold permStep
  simp only [bind_assoc]
  iintro ⟨HX, HS, K⟩
  ihave H' := (wp_ldX (defs := defs) c E arg2 (X := X) (o := 256 * g) (h := by omega) (Q := Q)) $$ HX
  iapply H'
  iintro HX
  ihave H' := (wp_ldX (defs := defs) c E arg2 (X := X) (o := 256 * g + 128) (h := by omega) (Q := Q)) $$ HX
  iapply H'
  iintro HX
  ihave H' := (wp_stP (defs := defs) c E arg5 harg5 (o := 256 * g) (h := by omega) (Q := Q)) $$ HS
  iapply H'
  iintro HS
  ihave H' := (wp_stP (defs := defs) c E arg5 harg5 (o := 256 * g + 128) (h := by omega) (Q := Q)) $$ HS
  iapply H'
  iintro HS
  have hS' := permTo_overlay (permTo_overlay hS (by omega) (permV 0#32 (slabX X (256 * g) (by omega)) (slabX X (256 * g + 128) (by omega)))
      fun y h1 h2 => permV_eq X g h 0 (by omega) y h1 h2) (by omega) (permV 1#32 (slabX X (256 * g) (by omega)) (slabX X (256 * g + 128) (by omega)))
    fun y h1 h2 => permV_eq X g h 1 (by omega) y h1 h2
  ispecialize K $$ %_ %hS' HX HS
  iexact K

/-- `n` groups permuted. -/
theorem wp_permSteps {Q : α → sProp 𝕄} {X : Vec F S192x9856 .bf16} {k : PUnit → Prog (TpuEff nD τ sig (Elt F) Λ₀ .tc) α} :
    ∀ (n g : Nat) (h : g + n ≤ 38) (S : Vec F S192x9984 .bf16), PermTo X (256 * g) S →
    iprop(owns (c : Thread nD τ) arg2 fullShare X ∗ owns (c : Thread nD τ) arg5 fullShare S
        ∗ (∀ S', ⌜PermTo X (256 * (g + n)) S'⌝ -∗ owns (c : Thread nD τ) arg2 fullShare X -∗ owns (c : Thread nD τ) arg5 fullShare S' -∗ wp frame (wpE defs Variants.none c none) E (k ⟨⟩) Q))
      ⊢ wp frame (wpE defs Variants.none c none) E (permSteps arg2 arg5 harg5 n g h >>= k) Q
  | 0, g, h, S, hS => by
    iintro ⟨HX, HS, K⟩
    ispecialize K $$ %S %hS HX HS
    iexact K
  | n + 1, g, h, S, hS => by
    unfold permSteps
    simp only [bind_assoc]
    iintro ⟨HX, HS, K⟩
    iapply (wp_permStep (defs := defs) c E arg2 arg5 harg5 (g := g) (h := _) (Q := Q) hS)
    isplitl [HX]; · iexact HX
    isplitl [HS]; · iexact HS
    iintro %S' %hS' HX HS
    iapply (wp_permSteps n (g + 1) _ S' hS')
    isplitl [HX]; · iexact HX
    isplitl [HS]; · iexact HS
    rw [show g + 1 + n = g + (n + 1) by omega]
    iexact K

/-- The whole of the activations permuted. -/
theorem wp_permAll {Q : α → sProp 𝕄} {X : Vec F S192x9856 .bf16} {k : PUnit → Prog (TpuEff nD τ sig (Elt F) Λ₀ .tc) α} {S : Vec F S192x9984 .bf16} :
    iprop(owns (c : Thread nD τ) arg2 fullShare X ∗ owns (c : Thread nD τ) arg5 fullShare S
        ∗ (owns (c : Thread nD τ) arg2 fullShare X -∗ owns (c : Thread nD τ) arg5 fullShare (permX X) -∗ wp frame (wpE defs Variants.none c none) E (k ⟨⟩) Q))
      ⊢ wp frame (wpE defs Variants.none c none) E (permAll arg2 arg5 harg5 >>= k) Q := by
  unfold permAll
  simp only [bind_assoc]
  iintro ⟨HX, HS, K⟩
  iapply (wp_permSteps (defs := defs) c E arg2 arg5 harg5 38 0 _ S (fun y hy => absurd hy (by omega)))
  isplitl [HX]; · iexact HX
  isplitl [HS]; · iexact HS
  iintro %S' %hS' HX HS
  ihave H' := (wp_ldX (defs := defs) c E arg2 (X := X) (o := 9728) (h := by omega) (Q := Q)) $$ HX
  iapply H'
  iintro HX
  ihave H' := (wp_stP (defs := defs) c E arg5 harg5 (o := 9728) (h := by omega) (Q := Q)) $$ HS
  iapply H'
  iintro HS
  ihave H' := (wp_stP (defs := defs) c E arg5 harg5 (o := 9856) (h := by omega) (Q := Q)) $$ HS
  iapply H'
  iintro HS
  have h1 : PermTo X (9728 + 128) _ := permTo_overlay (j := 9728) hS' (by omega) (permTailV (slabX X 9728 (by omega))) (fun y h1 h2 => by
    unfold permX
    rw [dif_neg (by omega), if_pos (by omega)]
    have e : (y 1).val % 128 = (y 1).val - 9728 := by omega
    simp only [e])
  have h2 : PermTo X (9856 + 128) _ := permTo_overlay (j := 9856) h1 (by omega) zerosV (fun y h1 h2 => by
    unfold permX
    rw [dif_neg (by omega), if_neg (by omega)]
    have e : (y 1).val % 128 = (y 1).val - 9856 := by omega
    simp only [e])
  have h3 := funext fun y => h2 y (y 1).isLt
  ispecialize K $$ HX
  rw [← h3]
  ispecialize K $$ HS
  iexact K

end Rules

end Cert.KernelIdeal.Gen
-- ==== Proof.Triple.lean ====
module

public import proofs.«01_k».proof.Proof.Rules

/-! The whole body's rule: from the scale, the activations, a weight block, and the scratch, the output block and the
    scratch after it. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Facts₀ Cert.KernelIdeal.Facts

variable {F : FTy → Type} [FloatOps F]

local notation "𝕄" => MT nD τ sig Unit (Elt F) ℕ (UR sig nD τ) ℕ

/-- The one scale. -/
def scaleOf (s : Vec F S1 .f32) : F .f32 := s (Shape.Idx.first (numel1_S1.symm ▸ Nat.one_pos))

/-- The output block's four tiles, stored over whatever it held. -/
theorem outBlk_eq (s : F .f32) (a b : FVec F S192x256 .f32) (S : Vec F S192x512 .bf16) :
    (Rect.unit (s := S192x512) ![0, 384] S192x128.size (inbO (by omega))).overlay
      ((Rect.unit (s := S192x512) ![0, 256] S192x128.size (inbO (by omega))).overlay
        ((Rect.unit (s := S192x512) ![0, 128] S192x128.size (inbO (by omega))).overlay
          ((Rect.unit (s := S192x512) ![0, 0] S192x128.size (inbO (by omega))).overlay S
            (outV 0#32 (leftV (scaledV s a)) (rightV (scaledV s a)) (leftV (scaledV s b)) (rightV (scaledV s b))))
          (outV 32#32 (leftV (scaledV s a)) (rightV (scaledV s a)) (leftV (scaledV s b)) (rightV (scaledV s b))))
        (outV 64#32 (leftV (scaledV s a)) (rightV (scaledV s a)) (leftV (scaledV s b)) (rightV (scaledV s b))))
      (outV 96#32 (leftV (scaledV s a)) (rightV (scaledV s a)) (leftV (scaledV s b)) (rightV (scaledV s b)))
      = outBlk s a b := by
  funext y
  have hy : (y 1).val < 512 := (y 1).isLt
  unfold outBlk
  by_cases h3 : 384 ≤ (y 1).val
  · refine (overlay_in (inb := inbO (by omega)) _ _ y h3 (by omega)).trans ?_
    simp only [show (y 1).val / 128 = 3 by omega, show (y 1).val % 128 = (y 1).val - 384 by omega]
  refine (overlay_out (inb := inbO (by omega)) _ _ y (.inl (by omega))).trans ?_
  by_cases h2 : 256 ≤ (y 1).val
  · refine (overlay_in (inb := inbO (by omega)) _ _ y h2 (by omega)).trans ?_
    simp only [show (y 1).val / 128 = 2 by omega, show (y 1).val % 128 = (y 1).val - 256 by omega]
  refine (overlay_out (inb := inbO (by omega)) _ _ y (.inl (by omega))).trans ?_
  by_cases h1 : 128 ≤ (y 1).val
  · refine (overlay_in (inb := inbO (by omega)) _ _ y h1 (by omega)).trans ?_
    simp only [show (y 1).val / 128 = 1 by omega, show (y 1).val % 128 = (y 1).val - 128 by omega]
  refine (overlay_out (inb := inbO (by omega)) _ _ y (.inl (by omega))).trans ?_
  refine (overlay_in (inb := inbO (by omega)) _ _ y (Nat.zero_le _) (by omega)).trans ?_
  simp only [show (y 1).val / 128 = 0 by omega, show (y 1).val % 128 = (y 1).val - 0 by omega]

section Rules

variable {defs : Defs nD τ sig (Elt F) Λ₀} (c : Dev nD) (E : Set ℕ) {α : Type}
variable (arg1 : Memref sig .tc .smem S1 .f32) (arg2 : Memref sig .tc .vmem S192x9856 .bf16) (arg3 : Memref sig .tc .vmem S9856x128 .i8)
  (arg4 : Memref sig .tc .vmem S192x512 .bf16) (harg4 : arg4.IsWhole) (arg5 : Memref sig .tc .vmem S192x9984 .bf16) (harg5 : arg5.IsWhole)

/-- A load at the head of a program. -/
theorem owns_lift_load {sp : CoreSpace} {sh : Shape} {e : EltTy} {m : Memref sig .tc sp sh e} {r : LoadRect sh} {hl : m.view.LoadsAt r}
    {Q : α → sProp 𝕄} {k : (r.shape.Idx → Elt F e) → Prog (TpuEff nD τ sig (Elt F) Λ₀ .tc) α} {q : PosShare TreeShare} {X : sh.Idx → Elt F e} :
    (owns (c : Thread nD τ) m q X : sProp 𝕄)
      ⊢ iprop((owns (c : Thread nD τ) m q X -∗ wp frame (wpE defs Variants.none c none) E (k fun i => X (r.idx i)) Q)
        -∗ wp frame (wpE defs Variants.none c none) E (Prog.lift (.load m r hl) >>= k) Q) :=
  owns_load (defs := defs) (m := m) (r := r) (hl := hl) (Q := Q) (X := X) (k := k) c E

/-- The end of a program. -/
theorem wp_done {Q : α → sProp 𝕄} {x : α} :
    (Q x : sProp 𝕄) ⊢ wp frame (wpE defs Variants.none c none) E (pure x : Prog (TpuEff nD τ sig (Elt F) Λ₀ .tc) α) Q := by
  show _ ⊢ wp frame _ E (Prog.ret x) Q
  rw [wp_ret]
  iintro H
  imodintro
  iexact H

/-- The scale read. -/
theorem wp_scale {Q : α → sProp 𝕄} {k : Elt F .f32 → Prog (TpuEff nD τ sig (Elt F) Λ₀ .tc) α} {X : Vec F S1 .f32} :
    (owns (c : Thread nD τ) arg1 fullShare X : sProp 𝕄)
      ⊢ iprop((owns (c : Thread nD τ) arg1 fullShare X -∗ wp frame (wpE defs Variants.none c none) E (k (scaleOf X)) Q)
        -∗ wp frame (wpE defs Variants.none c none) E (smemLoad arg1 (Rect.unit (s := S1) ![0] S1.size inb_S1_S1_0) numel1_S1 rfl >>= k) Q) := by
  have h := owns_load (defs := defs) (m := arg1) (r := (Rect.unit (s := S1) ![0] S1.size inb_S1_S1_0).toLoadRect) (hl := View.loadsAt_rect (View.loads_smem_one rfl numel1_S1)) (Q := Q) (X := X) (q := fullShare)
    (k := fun f => k (f (Shape.Idx.first (numel1_S1.symm ▸ Nat.one_pos)))) c E
  have e : X ((Rect.unit (s := S1) ![0] S1.size inb_S1_S1_0).toLoadRect.idx (Shape.Idx.first (numel1_S1.symm ▸ Nat.one_pos))) = scaleOf X := by
    unfold scaleOf
    congr 1
    funext a
    match a with
    | ⟨0, _⟩ => exact Subsingleton.elim (α := Fin 1) _ _
  rw [← e]
  exact h

/-- The products of one group. -/
theorem wp_groupStep {g : Nat} {h : g < 38} {u : Mxu F} (hu : Calm u) {Q : α → sProp 𝕄} {W : Vec F S9856x128 .i8} {P : Vec F S192x9984 .bf16}
    {k : Mxu F → Prog (TpuEff nD τ sig (Elt F) Λ₀ .tc) α} :
    iprop(owns (c : Thread nD τ) arg3 fullShare W ∗ owns (c : Thread nD τ) arg5 fullShare P
        ∗ (owns (c : Thread nD τ) arg3 fullShare W -∗ owns (c : Thread nD τ) arg5 fullShare P -∗ wp frame (wpE defs Variants.none c none) E (k (mxuStep W P g h u)) Q))
      ⊢ wp frame (wpE defs Variants.none c none) E (groupStep arg3 arg5 g h u >>= k) Q := by
  unfold groupStep
  simp only [bind_assoc]
  iintro ⟨HW, HP, K⟩
  ihave H' := (owns_lift_load (defs := defs) c E (Q := Q)) $$ HW
  iapply H'
  iintro HW
  ihave H' := (owns_lift_load (defs := defs) c E (Q := Q)) $$ HP
  iapply H'
  iintro HP
  iapply (Mxu.wp_pushRhs (c := (c : Thread nD τ)) _ (Mxu.pushOk_of_none _ _ _ _ (hu.reg _ _)))
  iapply (Mxu.wp_pushRhs (c := (c : Thread nD τ)) _ (Mxu.pushOk_of_none _ _ _ _ ((calm_pushAcc hu _ _ _ _).reg _ _)))
  ispecialize K $$ HW HP
  iexact K

/-- The products of `n` groups. -/
theorem wp_groupSteps {Q : α → sProp 𝕄} {W : Vec F S9856x128 .i8} {P : Vec F S192x9984 .bf16} {k : Mxu F → Prog (TpuEff nD τ sig (Elt F) Λ₀ .tc) α} :
    ∀ (n g : Nat) (h : g + n ≤ 38) (u : Mxu F), Calm u →
    iprop(owns (c : Thread nD τ) arg3 fullShare W ∗ owns (c : Thread nD τ) arg5 fullShare P
        ∗ (owns (c : Thread nD τ) arg3 fullShare W -∗ owns (c : Thread nD τ) arg5 fullShare P -∗ wp frame (wpE defs Variants.none c none) E (k (mxuSteps W P n g h u)) Q))
      ⊢ wp frame (wpE defs Variants.none c none) E (groupSteps arg3 arg5 n g h u >>= k) Q
  | 0, g, h, u, hu => by
    iintro ⟨HW, HP, K⟩
    ispecialize K $$ HW HP
    iexact K
  | n + 1, g, h, u, hu => by
    unfold groupSteps
    simp only [bind_assoc]
    iintro ⟨HW, HP, K⟩
    iapply (wp_groupStep (defs := defs) c E arg3 arg5 (g := g) (h := _) hu (Q := Q))
    isplitl [HW]; · iexact HW
    isplitl [HP]; · iexact HP
    iintro HW HP
    iapply (wp_groupSteps n (g + 1) _ _ (calm_mxuStep W P g _ hu))
    isplitl [HW]; · iexact HW
    isplitl [HP]; · iexact HP
    iexact K

/-- The products of the last group. -/
theorem wp_groupTail {u : Mxu F} (hu : Calm u) {Q : α → sProp 𝕄} {W : Vec F S9856x128 .i8} {P : Vec F S192x9984 .bf16}
    {k : Mxu F → Prog (TpuEff nD τ sig (Elt F) Λ₀ .tc) α} :
    iprop(owns (c : Thread nD τ) arg3 fullShare W ∗ owns (c : Thread nD τ) arg5 fullShare P
        ∗ (owns (c : Thread nD τ) arg3 fullShare W -∗ owns (c : Thread nD τ) arg5 fullShare P -∗ wp frame (wpE defs Variants.none c none) E (k (mxuTail W P u)) Q))
      ⊢ wp frame (wpE defs Variants.none c none) E (groupTail arg3 arg5 u >>= k) Q := by
  unfold groupTail
  simp only [bind_assoc]
  iintro ⟨HW, HP, K⟩
  ihave H' := (owns_lift_load (defs := defs) c E (Q := Q)) $$ HW
  iapply H'
  iintro HW
  ihave H' := (owns_lift_load (defs := defs) c E (Q := Q)) $$ HP
  iapply H'
  iintro HP
  iapply (Mxu.wp_pushRhs (c := (c : Thread nD τ)) _ (Mxu.pushOk_of_none _ _ _ _ (hu.reg _ _)))
  iapply (Mxu.wp_pushRhs (c := (c : Thread nD τ)) _ (Mxu.pushOk_of_none _ _ _ _ ((calm_pushAcc hu _ _ _ _).reg _ _)))
  ispecialize K $$ HW HP
  iexact K

/-- The accumulators read, scaled and stored. -/
theorem wp_finish {u : Mxu F} (hu : Calm u) {Q : PUnit → sProp 𝕄} {s : Vec F S1 .f32} {S : Vec F S192x512 .bf16} :
    iprop(owns (c : Thread nD τ) arg1 fullShare s ∗ owns (c : Thread nD τ) arg4 fullShare S
        ∗ (owns (c : Thread nD τ) arg1 fullShare s -∗ owns (c : Thread nD τ) arg4 fullShare (outBlk (scaleOf s) (u.read 0 0 fits_0_192) ((u.pop 0 0 192 fits_0_192).read 1 0 fits_0_192)) -∗ Q ⟨⟩))
      ⊢ wp frame (wpE defs Variants.none c none) E (finish arg1 arg4 harg4 u) Q := by
  unfold finish
  iintro ⟨H1, H4, K⟩
  ihave H' := (wp_scale (defs := defs) c E arg1 (Q := Q)) $$ H1
  iapply H'
  iintro H1
  ihave H' := (wp_stO (defs := defs) c E arg4 harg4 (o := 0) (h := by omega) (Q := Q)) $$ H4
  iapply H'
  iintro H4
  ihave H' := (wp_stO (defs := defs) c E arg4 harg4 (o := 128) (h := by omega) (Q := Q)) $$ H4
  iapply H'
  iintro H4
  ihave H' := (wp_stO (defs := defs) c E arg4 harg4 (o := 256) (h := by omega) (Q := Q)) $$ H4
  iapply H'
  iintro H4
  ihave H' := (wp_stO (defs := defs) c E arg4 harg4 (o := 384) (h := by omega) (Q := Q)) $$ H4
  iapply H'
  iintro H4
  iapply (Mxu.wp_exit (c := (c : Thread nD τ)) (drained_pops hu))
  iapply (wp_done (defs := defs) c E)
  ispecialize K $$ H1
  rw [← outBlk_eq _ _ _ S]
  ispecialize K $$ H4
  iexact K

/-- The products and the output. -/
theorem wp_rest {Q : PUnit → sProp 𝕄} {s : Vec F S1 .f32} {W : Vec F S9856x128 .i8} {P : Vec F S192x9984 .bf16} :
    iprop(owns (c : Thread nD τ) arg1 fullShare s ∗ owns (c : Thread nD τ) arg3 fullShare W ∗ (∃ S, owns (c : Thread nD τ) arg4 fullShare S) ∗ owns (c : Thread nD τ) arg5 fullShare P
        ∗ (owns (c : Thread nD τ) arg1 fullShare s -∗ owns (c : Thread nD τ) arg3 fullShare W
            -∗ owns (c : Thread nD τ) arg4 fullShare (outBlk (scaleOf s) ((mxuAll W P).read 0 0 fits_0_192) (((mxuAll W P).pop 0 0 192 fits_0_192).read 1 0 fits_0_192))
            -∗ owns (c : Thread nD τ) arg5 fullShare P -∗ Q ⟨⟩))
      ⊢ wp frame (wpE defs Variants.none c none) E (rest arg1 arg3 arg4 harg4 arg5 Mxu.init) Q := by
  unfold rest mxuAll
  iintro ⟨H1, H3, ⟨%S, H4⟩, H5, K⟩
  iapply (wp_groupSteps (defs := defs) c E arg3 arg5 38 0 _ _ calm_init)
  isplitl [H3]; · iexact H3
  isplitl [H5]; · iexact H5
  iintro H3 H5
  iapply (wp_groupTail (defs := defs) c E arg3 arg5 (calm_mxuSteps W P 38 0 _ _ calm_init))
  isplitl [H3]; · iexact H3
  isplitl [H5]; · iexact H5
  iintro H3 H5
  iapply (wp_finish (defs := defs) c E arg1 arg4 harg4 (calm_mxuTail W P (calm_mxuSteps W P 38 0 _ _ calm_init)))
  isplitl [H1]; · iexact H1
  isplitl [H4]; · iexact H4
  iintro H1 H4
  ispecialize K $$ H1 H3 H4 H5
  iexact K

end Rules

/-- The scratch after the body: the permuted activations at the first grid point, unchanged at the others. -/
def scratchAfter (i : grid0.Coords) (X : Vec F S192x9856 .bf16) (P : Vec F S192x9984 .bf16) : Vec F S192x9984 .bf16 :=
  if isFirst i = 1#1 then permX X else P

/-- The output block the body leaves. -/
def blockOut (s : Vec F S1 .f32) (W : Vec F S9856x128 .i8) (P : Vec F S192x9984 .bf16) : Vec F S192x512 .bf16 :=
  outBlk (scaleOf s) ((mxuAll W P).read 0 0 fits_0_192) (((mxuAll W P).pop 0 0 192 fits_0_192).read 1 0 fits_0_192)

/-- The whole body. -/
theorem wp_body {defs : Defs nD τ sig (Elt F) Λ₀} (c : Dev nD) (E : Set ℕ) (i : grid0.Coords) (arg1 : Memref sig .tc .smem S1 .f32) (harg1 : arg1.IsWhole)
    (arg2 : Memref sig .tc .vmem S192x9856 .bf16) (harg2 : arg2.IsWhole) (arg3 : Memref sig .tc .vmem S9856x128 .i8) (harg3 : arg3.IsWhole)
    (arg4 : Memref sig .tc .vmem S192x512 .bf16) (harg4 : arg4.IsWhole) (arg5 : Memref sig .tc .vmem S192x9984 .bf16) (harg5 : arg5.IsWhole)
    {Q : PUnit → sProp 𝕄} {s : Vec F S1 .f32} {X : Vec F S192x9856 .bf16} {W : Vec F S9856x128 .i8} {P : Vec F S192x9984 .bf16} :
    iprop(owns (c : Thread nD τ) arg1 fullShare s ∗ owns (c : Thread nD τ) arg2 fullShare X ∗ owns (c : Thread nD τ) arg3 fullShare W
        ∗ (∃ S, owns (c : Thread nD τ) arg4 fullShare S) ∗ owns (c : Thread nD τ) arg5 fullShare P
        ∗ (owns (c : Thread nD τ) arg1 fullShare s -∗ owns (c : Thread nD τ) arg2 fullShare X -∗ owns (c : Thread nD τ) arg3 fullShare W
            -∗ owns (c : Thread nD τ) arg4 fullShare (blockOut s W (scratchAfter i X P))
            -∗ owns (c : Thread nD τ) arg5 fullShare (scratchAfter i X P) -∗ Q ⟨⟩))
      ⊢ wp frame (wpE defs Variants.none c none) E (cc0_ternary_linear (F := F) i arg1 harg1 arg2 harg2 arg3 harg3 arg4 harg4 arg5 harg5) Q := by
  unfold scratchAfter blockOut
  by_cases h : isFirst i = 1#1
  · rw [body_first _ _ _ _ _ _ _ _ _ _ _ h, if_pos h, pops_init]
    iintro ⟨H1, H2, H3, H4, H5, K⟩
    iapply (wp_permAll (defs := defs) c E arg2 arg5 harg5)
    isplitl [H2]; · iexact H2
    isplitl [H5]; · iexact H5
    iintro H2 H5
    iapply (wp_rest (defs := defs) c E arg1 arg3 arg4 harg4 arg5)
    isplitl [H1]; · iexact H1
    isplitl [H3]; · iexact H3
    isplitl [H4]; · iexact H4
    isplitl [H5]; · iexact H5
    iintro H1 H3 H4 H5
    ispecialize K $$ H1 H2 H3 H4 H5
    iexact K
  · rw [body_other _ _ _ _ _ _ _ _ _ _ _ h, if_neg h]
    iintro ⟨H1, H2, H3, H4, H5, K⟩
    iapply (wp_rest (defs := defs) c E arg1 arg3 arg4 harg4 arg5)
    isplitl [H1]; · iexact H1
    isplitl [H3]; · iexact H3
    isplitl [H4]; · iexact H4
    isplitl [H5]; · iexact H5
    iintro H1 H3 H4 H5
    ispecialize K $$ H1 H2 H3 H4 H5
    iexact K

end Cert.KernelIdeal.Gen
-- ==== Proof.Region.lean ====
module

public import proofs.«01_k».proof.Proof.Triple

/-! The pipeline's proof data: what each staging buffer and the scratch hold at each grid point, and the body's triple there. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first grid point. -/
def t₀ : Fin cfg0.N := ⟨0, by decide⟩

/-- The body's first-point branch is taken at the first grid point only. -/
theorem isFirst_iff : ∀ t : Fin cfg0.N, isFirst (grid0.coords t) = 1#1 ↔ t.val = 0 := by
  show ∀ t : Fin grid0.N, isFirst (grid0.coords t) = 1#1 ↔ t.val = 0
  decide +kernel

/-- The scale's array at a point. -/
def sAt (c : Dev nD) (t : Fin cfg0.N) : Vec F S1 .f32 := iblk m c 0 t

/-- The activations at a point. -/
def xAt (c : Dev nD) (t : Fin cfg0.N) : Vec F S192x9856 .bf16 := iblk m c 1 t

/-- The activations are the same at every point. -/
theorem xAt_eq (c : Dev nD) (t : Fin cfg0.N) : xAt m c t = xAt m c t₀ := rfl

/-- The weight block at a point over the contents `d` of its buffer: the last block overhangs the array. -/
def wAt (c : Dev nD) (t : Fin cfg0.N) (d : Vec F S9856x128 .i8) : Vec F S9856x128 .i8 :=
  (cfg0.win 2).fill (cfg0.grid.coords t) d (iblk m c 2 t)

/-- The permuted activations. -/
def permOf (c : Dev nD) : Vec F S192x9984 .bf16 := permX (xAt m c t₀)

/-- The output block at a point, over the contents `d` of the weight buffer. -/
def oAt (c : Dev nD) (t : Fin cfg0.N) (d : Vec F S9856x128 .i8) : Vec F S192x512 .bf16 :=
  blockOut (sAt m c t) (wAt m c t d) (permOf m c)

/-- The proof data. -/
def dats (_ : Fin 1) (c : Dev nD) : Dat τ (Elt F) Unit ℕ (UR sig nD τ) ℕ cfg0 c where
  A w := V m c (Pipeline.arrRef spec0 w)
  after w t := match w with
    | ⟨0, _⟩ => sAt m c t
    | ⟨1, _⟩ => xAt m c t
    | ⟨2, _⟩ => wAt m c t (fun _ => (0#8 : BitVec 8))
    | ⟨3, _⟩ => oAt m c t (fun _ => (0#8 : BitVec 8))
  Φ t := iprop((∃ f : Vec F S192x9984 .bf16, ⌜t.val = 0 ∨ f = permOf m c⌝ ∗ owns (c : Thread nD τ) (Memref.whole cc0_scratch0) fullShare f) ∗ ∃ r, prngReg c r)
  q _ := fullShare
  owed _ := 0

/-- An array's contents when the region starts. -/
theorem A_eq (c : Dev nD) (w : Fin cfg0.W) : (dats m 0 c).A w = V m c (Pipeline.arrRef spec0 w) := by
  dsimp only [dats]

/-- The scale buffer after the body. -/
theorem after0_0 (c : Dev nD) (t : Fin cfg0.N) : (dats m 0 c).after 0 t = iblk m c 0 t := by dsimp only [dats]; rfl
/-- The x buffer after the body. -/
theorem after0_1 (c : Dev nD) (t : Fin cfg0.N) : (dats m 0 c).after 1 t = iblk m c 1 t := by dsimp only [dats]; rfl
/-- The weight buffer after the body. -/
theorem after0_2 (c : Dev nD) (t : Fin cfg0.N) : (dats m 0 c).after 2 t = wAt m c t (fun _ => (0#8 : BitVec 8)) := by dsimp only [dats]
/-- The output buffer after the body. -/
theorem after0_3 (c : Dev nD) (t : Fin cfg0.N) : (dats m 0 c).after 3 t = oAt m c t (fun _ => (0#8 : BitVec 8)) := by dsimp only [dats]

/-- The scale buffer before the body. -/
theorem before0_0 (c : Dev nD) (t : Fin cfg0.N) (d) : (dats m 0 c).before 0 t d = sAt m c t :=
  before0_0_of m (dats m 0 c) (A_eq m c 0) (after0_0 m c) t d
/-- The x buffer before the body. -/
theorem before0_1 (c : Dev nD) (t : Fin cfg0.N) (d) : (dats m 0 c).before 1 t d = xAt m c t :=
  before0_1_of m (dats m 0 c) (A_eq m c 1) (after0_1 m c) t d
/-- The weight buffer before the body: the block where the transfer fills it, `d` elsewhere. -/
theorem before0_2 (c : Dev nD) (t : Fin cfg0.N) (d) : (dats m 0 c).before 2 t d = wAt m c t d :=
  ((dats m 0 c).before_fetched 2 t (fetch0_2 t) d).trans
    (by unfold Dat.fetched Dat.blockOf wAt iblk; rw [A_eq])

/-- What is kept between grid points: the scratch (the permuted x from the second point on) and the random register. -/
theorem Φ_eq (c : Dev nD) (t : Fin (cfg0.N + 1)) : (dats m 0 c).Φ t = iprop((∃ f : Vec F S192x9984 .bf16, ⌜t.val = 0 ∨ f = permOf m c⌝ ∗ owns (c : Thread nD τ) (Memref.whole cc0_scratch0) fullShare f) ∗ ∃ r, prngReg c r) := by
  dsimp only [dats]

/-- What holds before the body at a point. -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare d))

/-- What holds after it. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d : Vec F S9856x128 .i8, owns (c : Thread nD τ) (st0_2 t) fullShare (wAt m c t d) ∗ owns (c : Thread nD τ) (st0_3 t) fullShare (oAt m c t d)))

/-- The scratch after the body at a point holds the permuted activations. -/
theorem scratchAfter_eq (c : Dev nD) (t : Fin cfg0.N) (f : Vec F S192x9984 .bf16) (h : t.val = 0 ∨ f = permOf m c) :
    scratchAfter (grid0.coords t) (xAt m c t) f = permOf m c := by
  unfold scratchAfter
  by_cases ht : t.val = 0
  · rw [if_pos ((isFirst_iff t).mpr ht)]; rfl
  · rw [if_neg (fun e => ht ((isFirst_iff t).mp e))]; exact h.resolve_left ht

/-- The body's triple at a point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2]
  rw [show (dats m 0 c).owesAt () t.succ = (dats m 0 c).owesAt () t.castSucc from rfl, after0_0, after0_1, Φ_eq, Φ_eq]
  iintro ⟨⟨⟨%f, %hf, HS⟩, Hr⟩, Ho, ⟨%d0, H0⟩, ⟨%d1, H1⟩, ⟨%d2, H2⟩, H3⟩
  iapply (wp_body (defs := defs₀ (F := F)) c Set.univ)
  isplitl [H0]; · iexact H0
  isplitl [H1]; · iexact H1
  isplitl [H2]; · iexact H2
  isplitl [H3]; · iexact H3
  isplitl [HS]; · iexact HS
  rw [scratchAfter_eq m c t f hf]
  iintro H0 H1 H2 H3 HS
  isplitl [HS Hr]
  · isplitl [HS]
    · iexists (permOf m c)
      isplitr
      · ipureintro; exact .inr rfl
      · iexact HS
    · iexact Hr
  isplitl [Ho]; · iexact Ho
  isplitl [H0]; · iexact H0
  isplitl [H1]; · iexact H1
  iexists d2
  isplitl [H2]; · iexact H2
  iexact H3

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The class invariant gives the tracked one before the first point. -/
theorem Φ_in (c : Dev nD) : (Pipeline.ΦA spec0 c : sProp 𝕄) ⊢ (dats m 0 c).Φ 0 := by
  rw [Φ_eq]
  unfold Pipeline.ΦA
  rw [scopedRest0_eq]
  simp only [owns_whole]
  iintro ⟨⟨%f, HS⟩, Hr⟩
  isplitl [HS]
  · iexists f
    isplitr
    · ipureintro; exact .inl rfl
    · iexact HS
  · iexact Hr

/-- The tracked invariant gives the class one back. -/
theorem Φ_out (c : Dev nD) (t : Fin (cfg0.N + 1)) : (dats m 0 c).Φ t ⊢ (Pipeline.ΦA spec0 c : sProp 𝕄) := by
  rw [Φ_eq]
  unfold Pipeline.ΦA
  rw [scopedRest0_eq]
  simp only [owns_whole]
  iintro ⟨⟨%f, %hf, HS⟩, Hr⟩
  isplitl [HS]
  · iexists f
    iexact HS
  · iexact Hr

end Cert.KernelIdeal.Gen
-- ==== Proof.Frames.lean ====
module

public import proofs.«01_k».proof.Proof.Region

/-! The frame: every run ends, the arguments unchanged and the counters at zero. The output's contents are not followed here. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Facts₀ Cert.KernelIdeal.Facts

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The output window is the one not followed. -/
def fgt : Fin cfg0.W → Bool := fun w => match w with
  | ⟨3, _⟩ => true
  | _ => false

/-- The weight buffer after the body, as the loop describes it: the block where the transfer reached, anything elsewhere. -/
theorem wAt_eq (c : Dev nD) (t : Fin cfg0.N) (d : Vec F S9856x128 .i8) :
    wAt m c t d = (cfg0.win 2).fill (cfg0.grid.coords t) d ((cfg0.win 2).cut (cfg0.grid.coords t) ((dats m 0 c).after 2 t)) := by
  rw [after0_2]
  unfold wAt
  rw [(cfg0.win 2).cut_fill]

/-- What the loop asks after the body, the output not followed. -/
def bodyPostForget (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare d))

/-- What the body leaves entails the same with the output not followed. -/
theorem bodyPost_forget (c : Dev nD) (t : Fin cfg0.N) : bodyPost m c t ⊢ bodyPostForget m c t := by
  unfold bodyPost bodyPostForget
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← wAt_eq]
    iexact H2
  · iexists _; iexact H3

/-- The body's obligation, the output not followed. -/
theorem body_obligation_forget (c : Dev nD) : BodyObligationLoose (dats (F := F) m 0 c) (defs₀ (F := F)) Variants.none () Set.univ fgt := fun t => by
  rw [bigSep_W0, bigSep_W0, defs₀_row]
  exact triple_restated (sound_body m c t) rfl .rfl fun _ => bodyPost_forget m c t

-- the run's implicit arguments are found by unifying its conclusion with this one, which takes unfolding plain
-- definitions in a metavariable's type
set_option backward.isDefEq.respectTransparency.types false in
/-- The run, the output not followed. -/
theorem run_forget : θ_run defs (onTc (τ := τ) (main (F := F))) (s₀ m ρ)
    (fun r => RDat.FramePost cfg0 (fun c => (dats m 0 c).toRForget fgt) (V m) r ∧ r.2.sem = fun _ => 0) :=
  Pipeline.θ_run_frame_track_forget (Q' := _) cfgs (dats m) (0 : Fin 1) launch0 defs₀ Variants.none fgt m ρ main
    (hbody := body_obligation_forget m) (hshare := fun c => (dats m 0 c).share_full fun _ => rfl)
    (howed := fun _ _ => rfl) (V := V m) (hmain := hmain m Variants.none) (hA := A_eq m)
    (hin := Φ_in m) (hout := fun c => Φ_out m c _)

/-- The frame: the arguments end unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c => ⟨((h.1 c).2 main_arg0 (Pipeline.mem_restRefs_of main_arg0 (by decide) (by decide))).trans (V_main_arg0 m c),
      (RDat.FramePost.arr_in h.1 c 2 rfl).trans ((A_eq m c 2).trans (V_main_arg1 m c)),
      ((h.1 c).2 main_arg2 (Pipeline.mem_restRefs_of main_arg2 (by decide) (by decide))).trans (V_main_arg2 m c)⟩, h.2⟩) (run_forget m ρ)

end Cert.KernelIdeal.Gen
-- ==== Proof.Lanes.lean ====
module

public import proofs.«01_k».proof.Proof.Steps
public import Idealize.ShloMosaic.Lib.MatmulPlain
public import Idealize.ShloMosaic.Lib.IdealHost
public import Idealize.ShloMosaic.Lib.Pipeline.Value

/-! The lane arithmetic of the body, and what its gathers read. -/

@[expose] public section

set_option maxRecDepth 16384

noncomputable section

namespace Cert.KernelIdeal.Gen

open Idealize.ShloMosaic Idealize.ShloMosaic.TcCoe Idealize.ShloMosaic.Tactic
open Cert.KernelIdeal.Facts₀ Cert.KernelIdeal.Facts

/-! ## Scalars -/

/-- The remainder of one lane. -/
def mod1 (v d : BitVec 32) : BitVec 32 :=
  let d' : BitVec 32 := Scalar.select (Scalar.cmpi .eq d 0#32) 1#32 d
  let r := Scalar.remsi v d'
  Scalar.select (Scalar.andi (Scalar.xori (Scalar.cmpi .slt r 0#32) (Scalar.cmpi .slt d' 0#32)) (Scalar.cmpi .ne r 0#32)) (Scalar.addi r d') r

/-- The wrapped index of one lane. -/
def wrap1 (v : BitVec 32) : BitVec 32 := Scalar.select (Scalar.cmpi .slt v 0#32) (Scalar.addi v 128#32) v

/-- The lane number over four of one lane. -/
def quart1 (v : BitVec 32) : BitVec 32 :=
  let q := Scalar.divsi v 4#32
  Scalar.select (Scalar.andi (Scalar.cmpi .ne (Scalar.subi (Scalar.extui (Scalar.cmpi .sgt v 0#32)) (Scalar.extui (Scalar.cmpi .slt v 0#32)))
        (Scalar.subi (Scalar.extui (Scalar.cmpi .sgt 4#32 0#32)) (Scalar.extui (Scalar.cmpi .slt 4#32 0#32))))
      (Scalar.cmpi .ne (Scalar.remsi v 4#32) 0#32))
    (Scalar.subi q 1#32) q

/-- The lane index at an element is its lane. -/
theorem laneV_apply (j : S192x128.Idx) : laneV j = BitVec.ofNat 32 (j 1).val := iota_single_apply _ _ _ _ _ _

/-- The remainder, element by element. -/
theorem modV_apply (v : IVec S192x128 32) (d : BitVec 32) (j : S192x128.Idx) : modV v d j = mod1 (v j) d := rfl

/-- The wrapped index, element by element. -/
theorem wrapV_apply (v : IVec S192x128 32) (j : S192x128.Idx) : wrapV v j = wrap1 (v j) := by
  unfold wrapV
  rw [shapeCast_shapeCast]
  rfl

/-- Twice the lane, modulo 128, at an element. -/
theorem twiceV_apply (j : S192x128.Idx) : twiceV j = mod1 (Scalar.muli (BitVec.ofNat 32 (j 1).val) 2#32) 128#32 := by
  rw [← laneV_apply]; rfl

/-- Whether the lane is among the first 64, at an element. -/
theorem lowV_apply (j : S192x128.Idx) : lowV j = Scalar.cmpi .slt (BitVec.ofNat 32 (j 1).val) 64#32 := by
  rw [← laneV_apply]; rfl

/-- The lane over four, at an element. -/
theorem quartV_apply (j : S192x128.Idx) : quartV j = quart1 (BitVec.ofNat 32 (j 1).val) := by
  rw [← laneV_apply]; rfl

/-- The lane modulo four, at an element. -/
theorem whichV_apply (j : S192x128.Idx) : whichV j = mod1 (BitVec.ofNat 32 (j 1).val) 4#32 := by
  rw [← laneV_apply]; rfl

/-- The lane the gather of a pair of slabs reads. -/
theorem twice_lane : ∀ (o : Fin 2) (l : Fin 128),
    (wrap1 (Scalar.addi (mod1 (Scalar.muli (BitVec.ofNat 32 l.val) 2#32) 128#32) (BitVec.ofNat 32 o.val))).toNat % 128 = (2 * l.val) % 128 + o.val := by
  decide +kernel

/-- The comparison with 64, as a truth value. -/
theorem low_lane : ∀ l : Fin 128, Scalar.cmpi .slt (BitVec.ofNat 32 l.val) 64#32 = BitVec.ofBool (decide (l.val < 64)) := by
  decide +kernel

/-- The lane the gather of the last slab reads. -/
theorem tail_lane : ∀ l : Fin 128,
    (wrap1 (Scalar.select (Scalar.cmpi .slt (BitVec.ofNat 32 l.val) 64#32) (mod1 (Scalar.muli (BitVec.ofNat 32 l.val) 2#32) 128#32)
      (Scalar.addi (mod1 (Scalar.muli (BitVec.ofNat 32 l.val) 2#32) 128#32) 1#32))).toNat % 128 = 2 * (l.val % 64) + l.val / 64 := by
  decide +kernel

/-- The lane the gathers of the output read. -/
theorem quart_lane : ∀ (t : Fin 4) (l : Fin 128),
    (wrap1 (Scalar.addi (quart1 (BitVec.ofNat 32 l.val)) (BitVec.ofNat 32 (32 * t.val)))).toNat % 128 = 32 * t.val + l.val / 4 := by
  decide +kernel

/-- The field an output lane belongs to. -/
theorem which_lane : ∀ l : Fin 128, mod1 (BitVec.ofNat 32 l.val) 4#32 = BitVec.ofNat 32 (l.val % 4) := by
  decide +kernel

/-! ## Gathers -/

/-- A gather of lanes reads the lane its index names. -/
theorem gather_lane {α : Type} (x : S192x128.Idx → α) (idx : IVec S192x128 32) (j : S192x128.Idx) (n : Nat) (hn : n < 128)
    (h : (idx j).toNat % 128 = n) : dynamicGather 1 x idx j = x (Mxu.ix (j 0) ⟨n, hn⟩) := by
  unfold dynamicGather
  congr 1
  funext b
  match b with
  | ⟨0, _⟩ => rfl
  | ⟨1, _⟩ => exact Fin.ext h

/-- Widening changes no extended real. -/
theorem wideV_apply (a : Vec Ideal S192x128 .bf16) (j : S192x128.Idx) : wideV a j = a j := by
  unfold wideV
  rw [shapeCast_self]
  rfl

/-- The same, of the whole array. -/
theorem wideV_eq (a : Vec Ideal S192x128 .bf16) : (wideV a : S192x128.Idx → EReal) = a := funext (wideV_apply a)

/-- A permuted slab at a lane. -/
theorem permV_apply (o : Fin 2) (a b : Vec Ideal S192x128 .bf16) (i : Fin 192) (l : Fin 128) :
    permV (BitVec.ofNat 32 o.val) a b (Mxu.ix i l)
      = if l.val < 64 then a (Mxu.ix i ⟨(2 * l.val) % 128 + o.val, by omega⟩) else b (Mxu.ix i ⟨(2 * l.val) % 128 + o.val, by omega⟩) := by
  unfold permV
  rw [shapeCast_self]
  have hl : ∀ n : Nat, (2 * l.val) % 128 + o.val = n → (wrapV (addi twiceV (broadcast S192x128 (BitVec.ofNat 32 o.val))) (Mxu.ix i l)).toNat % 128 = n := by
    intro n hn
    rw [wrapV_apply, ← hn, ← twice_lane o l]
    show (wrap1 (Scalar.addi (twiceV (Mxu.ix i l)) _)).toNat % 128 = _
    rw [twiceV_apply]
    rfl
  show Scalar.select (lowV (Mxu.ix i l)) _ _ = _
  rw [gather_lane _ _ _ _ (by omega) (hl _ rfl), gather_lane _ _ _ _ (by omega) (hl _ rfl), lowV_apply, wideV_apply, wideV_apply]
  rw [show Scalar.cmpi .slt (BitVec.ofNat 32 ((Mxu.ix i l : S192x128.Idx) 1).val) 64#32 = _ from low_lane l]
  by_cases h : l.val < 64
  · rw [if_pos h, decide_eq_true h]; rfl
  · rw [if_neg h, decide_eq_false h]; rfl

/-- The last permuted slab at a lane. -/
theorem permTailV_apply (a : Vec Ideal S192x128 .bf16) (i : Fin 192) (l : Fin 128) :
    permTailV a (Mxu.ix i l) = a (Mxu.ix i ⟨2 * (l.val % 64) + l.val / 64, by omega⟩) := by
  unfold permTailV
  rw [shapeCast_self]
  have hl : (wrapV (select lowV twiceV (addi twiceV (broadcast S192x128 1#32))) (Mxu.ix i l)).toNat % 128 = 2 * (l.val % 64) + l.val / 64 := by
    rw [wrapV_apply, ← tail_lane l]
    show (wrap1 (Scalar.select (lowV (Mxu.ix i l)) (twiceV (Mxu.ix i l)) (Scalar.addi (twiceV (Mxu.ix i l)) 1#32))).toNat % 128 = _
    rw [lowV_apply, twiceV_apply]
    rfl
  show dynamicGather 1 (wideV a) _ (Mxu.ix i l) = _
  rw [gather_lane _ _ _ _ (by omega) hl, wideV_apply]
  rfl

/-- The fill of the last group is zero. -/
theorem zerosV_apply (j : S192x128.Idx) : zerosV (F := Ideal) j = 0 := by
  unfold zerosV
  rw [shapeCast_self]
  exact Ideal.ofBits_zero_bf16

/-- An output tile at a lane. -/
theorem outV_apply (t : Fin 4) (f0 f1 f2 f3 : FVec Ideal S192x128 .f32) (i : Fin 192) (l : Fin 128) :
    outV (BitVec.ofNat 32 (32 * t.val)) f0 f1 f2 f3 (Mxu.ix i l)
      = (![f0, f1, f2, f3] ⟨l.val % 4, Nat.mod_lt _ (by decide)⟩) (Mxu.ix i ⟨32 * t.val + l.val / 4, by omega⟩) := by
  unfold outV
  have hl : (wrapV (addi quartV (broadcast S192x128 (BitVec.ofNat 32 (32 * t.val)))) (Mxu.ix i l)).toNat % 128 = 32 * t.val + l.val / 4 := by
    rw [wrapV_apply, ← quart_lane t l]
    show (wrap1 (Scalar.addi (quartV (Mxu.ix i l)) _)).toNat % 128 = _
    rw [quartV_apply]
    rfl
  have hw : whichV (Mxu.ix i l) = BitVec.ofNat 32 (l.val % 4) := (whichV_apply _).trans (which_lane l)
  show Scalar.select (Scalar.cmpi .eq (whichV (Mxu.ix i l)) 0#32) (dynamicGather 1 f0 _ (Mxu.ix i l))
    (Scalar.select (Scalar.cmpi .eq (whichV (Mxu.ix i l)) 1#32) (dynamicGather 1 f1 _ (Mxu.ix i l))
      (Scalar.select (Scalar.cmpi .eq (whichV (Mxu.ix i l)) 2#32) (dynamicGather 1 f2 _ (Mxu.ix i l)) (dynamicGather 1 f3 _ (Mxu.ix i l)))) = _
  rw [gather_lane f0 _ _ _ (by omega) hl, gather_lane f1 _ _ _ (by omega) hl, gather_lane f2 _ _ _ (by omega) hl, gather_lane f3 _ _ _ (by omega) hl, hw]
  have key : ∀ (w : Fin 4) (j : S192x128.Idx), Scalar.select (Scalar.cmpi .eq (BitVec.ofNat 32 w.val) 0#32) (f0 j)
      (Scalar.select (Scalar.cmpi .eq (BitVec.ofNat 32 w.val) 1#32) (f1 j)
        (Scalar.select (Scalar.cmpi .eq (BitVec.ofNat 32 w.val) 2#32) (f2 j) (f3 j))) = (![f0, f1, f2, f3] w) j := fun w j =>
    match w with
    | 0 => rfl
    | 1 => rfl
    | 2 => rfl
    | 3 => rfl
  exact key ⟨l.val % 4, Nat.mod_lt _ (by decide)⟩ _

end Cert.KernelIdeal.Gen
-- ==== Proof.Weights.lean ====
module

public import proofs.«01_k».proof.Proof.Lanes
public import Idealize.ShloMosaic.Lib.BitcastFour
public import Idealize.ShloMosaic.Lib.BitcastPair

/-! The weight tiles the body builds, element by element. -/

@[expose] public section

set_option maxRecDepth 16384

noncomputable section

namespace Cert.KernelIdeal.Gen

open Idealize.ShloMosaic Idealize.ShloMosaic.TcCoe Idealize.ShloMosaic.Tactic
open Cert.KernelIdeal.Facts₀ Cert.KernelIdeal.Facts

/-- The 16-bit float pattern of field `j` of a byte: its two bits complemented, as the top two. -/
def pat (j : Fin 4) (b : BitVec 8) : BitVec 16 := (((~~~b) >>> (2 * j.val)).setWidth 16) <<< 14

/-- The value of that pattern. -/
def codeVal (j : Fin 4) (b : BitVec 8) : EReal := Ideal.ofBits .bf16 (pat j b)

/-- A half of a shifted, complemented and masked word is the pattern of the field its shift selects. -/
theorem half_eq (B : BitVec 32) (byte : BitVec 8) (h b : Fin 2) (j : Fin 4)
    (hB : ∀ p < 8, byte.getLsbD p = B.getLsbD (8 * (2 * h.val + b.val) + p)) :
    (((B ^^^ 4294967295#32) <<< (14 - 8 * b.val - 2 * j.val)) &&& 3221274624#32).extractLsb' (16 * h.val) 16 = pat j byte := by
  have e : byte = B.extractLsb' (8 * (2 * h.val + b.val)) 8 := by
    apply BitVec.eq_of_getLsbD_eq
    intro p hp
    rw [hB p hp, BitVec.getLsbD_extractLsb']
    simp [hp]
  subst e
  clear hB
  have hK : ∀ i : Nat, i < 32 → (3221274624#32 : BitVec 32).getLsbD i = decide (14 ≤ i % 16) := by decide
  have hO : ∀ i : Nat, i < 32 → (4294967295#32 : BitVec 32).getLsbD i = true := by decide
  apply BitVec.eq_of_getLsbD_eq
  intro i hi
  have hh := h.isLt
  have hb := b.isLt
  have hj := j.isLt
  unfold pat
  rw [BitVec.getLsbD_extractLsb', BitVec.getLsbD_and, hK _ (by omega), BitVec.getLsbD_shiftLeft, BitVec.getLsbD_shiftLeft, BitVec.getLsbD_setWidth,
    BitVec.getLsbD_ushiftRight, BitVec.getLsbD_not, BitVec.getLsbD_extractLsb', BitVec.getLsbD_xor]
  by_cases h14 : 14 ≤ i
  · rw [hO _ (by omega), show 16 * h.val + i - (14 - 8 * b.val - 2 * j.val) = 8 * (2 * h.val + b.val) + (2 * j.val + (i - 14)) by omega]
    have a1 : (16 * h.val + i) % 16 = i := by omega
    simp [a1, h14, hi, show 16 * h.val + i < 32 by omega, show ¬ (16 * h.val + i < 14 - 8 * b.val - 2 * j.val) by omega, show ¬ i < 14 by omega,
      show i - 14 < 16 by omega, show 2 * j.val + (i - 14) < 8 by omega]
  · have a1 : (16 * h.val + i) % 16 = i := by omega
    simp [a1, h14, show i < 14 by omega]

/-- The two spellings of an index of a matrix. -/
theorem ix_eq {n d : Nat} (a : Fin n) (b : Fin d) : (Mxu.ix a b : (⟨2, ![n, d]⟩ : Shape).Idx) = ValueIdx.ix2 a b := by
  funext x
  match x with
  | ⟨0, _⟩ => rfl
  | ⟨1, _⟩ => rfl

/-- A weight's value depends only on the three numbers that place it. -/
theorem codeVal_congr {n d : Nat} (w : (⟨2, ![n, d]⟩ : Shape).Idx → BitVec 8) {j j' : Fin 4} {p p' : Fin n} {c c' : Fin d}
    (hj : j.val = j'.val) (hp : p.val = p'.val) (hc : c.val = c'.val) :
    codeVal j (w (Mxu.ix p c)) = codeVal j' (w (Mxu.ix p' c')) := by
  rw [Fin.ext hj, Fin.ext hp, Fin.ext hc]

/-- The word a result half comes from, bit by bit back to the byte. -/
theorem tile_bits {R q r2 : Nat} (w : (⟨2, ![R, 128]⟩ : Shape).Idx → BitVec 8) (h1 : (⟨2, ![R, 128]⟩ : Shape).Bitcasts 8 ⟨2, ![q, 128]⟩ 32)
    (h2 : (⟨2, ![q, 128]⟩ : Shape).Bitcasts 32 ⟨2, ![r2, 128]⟩ 16) (v : (⟨2, ![q, 128]⟩ : Shape).Idx → BitVec 32) (b : Fin 2) (j : Fin 4)
    (hv : ∀ i, v i = ((bitcast ⟨2, ![q, 128]⟩ 32 w h1 i ^^^ 4294967295#32) <<< (14 - 8 * b.val - 2 * j.val)) &&& 3221274624#32)
    (r : Fin r2) (c : Fin 128) (hr : r.val / 2 < q) (p : Fin R) (hp : p.val = 2 * r.val + b.val) :
    bitcast ⟨2, ![r2, 128]⟩ 16 v h2 (Mxu.ix r c) = pat j (w (Mxu.ix p c)) := by
  rw [bitcast_32_16]
  rw [show h2.srcIdx (Mxu.ix r c) ((⟨2, ![r2, 128]⟩ : Shape).row (Mxu.ix r c) / 2) _ = Mxu.ix ⟨r.val / 2, hr⟩ c from ?_]
  swap
  · funext a
    match a with
    | ⟨0, _⟩ => exact Fin.ext (h2.srcIdx_row _ _ _ ⟨0, Nat.zero_lt_two⟩ rfl)
    | ⟨1, _⟩ => exact Fin.ext (h2.srcIdx_other _ _ _ ⟨1, Nat.one_lt_two⟩ (by show ¬ 1 + 2 = 2; omega))
  rw [hv]
  refine half_eq _ _ ⟨r.val % 2, Nat.mod_lt _ (by decide)⟩ b j fun p' hp' => ?_
  have hb := b.isLt
  have e := bitcast_8_32_getLsbD_ix2 w h1 ⟨r.val / 2, hr⟩ c (8 * (2 * (r.val % 2) + b.val) + p') (by omega) p (by rw [hp]; show _ = 4 * (r.val / 2) + _; omega)
  rw [show (8 * (2 * (r.val % 2) + b.val) + p') % 8 = p' by omega] at e
  rw [ix_eq, ix_eq]
  exact e.symm

/-- A shift of the words by a constant, at an element. -/
theorem shlV_apply (v : IVec S64x128 32) (s : BitVec 32) (n : Nat) (hn : s.toNat = n) (hs : n < 32) (i : S64x128.Idx) : shlV v s i = v i <<< n := by
  subst hn
  show (if s.toNat < 32 then v i <<< s else _) = _
  rw [if_pos hs]
  rfl

/-- The same for the last group's words. -/
theorem shlTV_apply (v : IVec S32x128 32) (s : BitVec 32) (n : Nat) (hn : s.toNat = n) (hs : n < 32) (i : S32x128.Idx) : shlTV v s i = v i <<< n := by
  subst hn
  show (if s.toNat < 32 then v i <<< s else _) = _
  rw [if_pos hs]
  rfl

/-- A group's tile of one field and parity, at an element. -/
theorem tileV_apply (w : Vec Ideal S256x128 .i8) (b : Fin 2) (j : Fin 4) (v : IVec S64x128 32)
    (hv : ∀ i, v i = codesV w i <<< (14 - 8 * b.val - 2 * j.val)) (r : Fin 128) (c : Fin 128) :
    tileV (F := Ideal) v (Mxu.ix r c) = codeVal j (w (Mxu.ix ⟨2 * r.val + b.val, by omega⟩ c)) := by
  unfold tileV codeVal
  exact congrArg (Ideal.ofBits .bf16) (tile_bits w _ _ _ b j (fun i => by show v i &&& 3221274624#32 = _; rw [hv]; rfl) r c (by omega) _ rfl)

/-- The last group's tile of one field and parity, at an element. -/
theorem tileTV_apply (w : Vec Ideal S128x128 .i8) (b : Fin 2) (j : Fin 4) (v : IVec S32x128 32)
    (hv : ∀ i, v i = codesTV w i <<< (14 - 8 * b.val - 2 * j.val)) (r : Fin 64) (c : Fin 128) :
    tileTV (F := Ideal) v (Mxu.ix r c) = codeVal j (w (Mxu.ix ⟨2 * r.val + b.val, by omega⟩ c)) := by
  unfold tileTV codeVal
  exact congrArg (Ideal.ofBits .bf16) (tile_bits w _ _ _ b j (fun i => by show v i &&& 3221274624#32 = _; rw [hv]; rfl) r c (by omega) _ rfl)

/-- Two pieces stacked by rows, at an element. -/
theorem stack_rows {α : Type} {n d : Nat} (x₁ x₂ : (⟨2, ![n, d]⟩ : Shape).Idx → α)
    (h : Shape.Concatenates [⟨2, ![n, d]⟩, ⟨2, ![n, d]⟩] ⟨2, ![2 * n, d]⟩ 0) (k : Fin (2 * n)) (c : Fin d) :
    concatenate ⟨2, ![2 * n, d]⟩ 0 [⟨_, x₁⟩, ⟨_, x₂⟩] h (Mxu.ix k c)
      = if hk : k.val < n then x₁ (Mxu.ix ⟨k.val, hk⟩ c) else x₂ (Mxu.ix ⟨k.val - n, by omega⟩ c) := by
  by_cases hk : k.val < n
  · rw [dif_pos hk]
    refine concatenate_pair_apply_left (s₁ := ⟨2, ![n, d]⟩) (s₂ := ⟨2, ![n, d]⟩) (t := ⟨2, ![2 * n, d]⟩) (0 : Fin 2) x₁ x₂ h (Mxu.ix k c) rfl (Mxu.ix ⟨k.val, hk⟩ c) fun b => ?_
    match b with
    | ⟨0, _⟩ => rfl
    | ⟨1, _⟩ => rfl
  · rw [dif_neg hk]
    refine concatenate_pair_apply_right (s₁ := ⟨2, ![n, d]⟩) (s₂ := ⟨2, ![n, d]⟩) (t := ⟨2, ![2 * n, d]⟩) (0 : Fin 2) x₁ x₂ h (Mxu.ix k c) rfl rfl (Mxu.ix ⟨k.val - n, by omega⟩ c) (fun b hb => ?_) ?_
    · match b with
      | ⟨0, _⟩ => exact absurd rfl hb
      | ⟨1, _⟩ => rfl
    · show k.val - n + n = k.val
      omega

/-- Two pieces side by side, at an element. -/
theorem stack_cols {α : Type} {n d : Nat} (x₁ x₂ : (⟨2, ![d, n]⟩ : Shape).Idx → α)
    (h : Shape.Concatenates [⟨2, ![d, n]⟩, ⟨2, ![d, n]⟩] ⟨2, ![d, 2 * n]⟩ 1) (c : Fin d) (k : Fin (2 * n)) :
    concatenate ⟨2, ![d, 2 * n]⟩ 1 [⟨_, x₁⟩, ⟨_, x₂⟩] h (Mxu.ix c k)
      = if hk : k.val < n then x₁ (Mxu.ix c ⟨k.val, hk⟩) else x₂ (Mxu.ix c ⟨k.val - n, by omega⟩) := by
  by_cases hk : k.val < n
  · rw [dif_pos hk]
    refine concatenate_pair_apply_left (s₁ := ⟨2, ![d, n]⟩) (s₂ := ⟨2, ![d, n]⟩) (t := ⟨2, ![d, 2 * n]⟩) (1 : Fin 2) x₁ x₂ h (Mxu.ix c k) rfl (Mxu.ix c ⟨k.val, hk⟩) fun b => ?_
    match b with
    | ⟨0, _⟩ => rfl
    | ⟨1, _⟩ => rfl
  · rw [dif_neg hk]
    refine concatenate_pair_apply_right (s₁ := ⟨2, ![d, n]⟩) (s₂ := ⟨2, ![d, n]⟩) (t := ⟨2, ![d, 2 * n]⟩) (1 : Fin 2) x₁ x₂ h (Mxu.ix c k) rfl rfl (Mxu.ix c ⟨k.val - n, by omega⟩) (fun b hb => ?_) ?_
    · match b with
      | ⟨1, _⟩ => exact absurd rfl hb
      | ⟨0, _⟩ => rfl
    · show k.val - n + n = k.val
      omega

/-- A field's weights of a group: row `k` is source row `2 (k % 128) + k / 128`. -/
theorem colV_apply (w : Vec Ideal S256x128 .i8) (j : Fin 4) (v0 v1 : IVec S64x128 32)
    (h0 : ∀ i, v0 i = codesV w i <<< (14 - 2 * j.val)) (h1 : ∀ i, v1 i = codesV w i <<< (6 - 2 * j.val)) (k : Fin 256) (c : Fin 128) :
    colV (F := Ideal) v0 v1 (Mxu.ix k c) = codeVal j (w (Mxu.ix ⟨2 * (k.val % 128) + k.val / 128, by omega⟩ c)) := by
  refine (stack_rows (n := 128) _ _ _ k c).trans ?_
  by_cases hk : k.val < 128
  · rw [dif_pos hk, tileV_apply w 0 j v0 (fun i => h0 i)]
    exact codeVal_congr w rfl (by show 2 * k.val + 0 = 2 * (k.val % 128) + k.val / 128; omega) rfl
  · rw [dif_neg hk, tileV_apply w 1 j v1 (fun i => by rw [h1 i]; exact congrArg (fun t => _ <<< t) (show 6 - 2 * j.val = 14 - 8 * 1 - 2 * j.val by omega))]
    exact codeVal_congr w rfl (by show 2 * (k.val - 128) + 1 = 2 * (k.val % 128) + k.val / 128; omega) rfl

/-- A field's weights of the last group. -/
theorem colTV_apply (w : Vec Ideal S128x128 .i8) (j : Fin 4) (v0 v1 : IVec S32x128 32)
    (h0 : ∀ i, v0 i = codesTV w i <<< (14 - 2 * j.val)) (h1 : ∀ i, v1 i = codesTV w i <<< (6 - 2 * j.val)) (k : Fin 128) (c : Fin 128) :
    colTV (F := Ideal) v0 v1 (Mxu.ix k c) = codeVal j (w (Mxu.ix ⟨2 * (k.val % 64) + k.val / 64, by omega⟩ c)) := by
  refine (stack_rows (n := 64) _ _ _ k c).trans ?_
  by_cases hk : k.val < 64
  · rw [dif_pos hk, tileTV_apply w 0 j v0 (fun i => h0 i)]
    exact codeVal_congr w rfl (by show 2 * k.val + 0 = 2 * (k.val % 64) + k.val / 64; omega) rfl
  · rw [dif_neg hk, tileTV_apply w 1 j v1 (fun i => by rw [h1 i]; exact congrArg (fun t => _ <<< t) (show 6 - 2 * j.val = 14 - 8 * 1 - 2 * j.val by omega))]
    exact codeVal_congr w rfl (by show 2 * (k.val - 64) + 1 = 2 * (k.val % 64) + k.val / 64; omega) rfl

/-- The last field's odd rows are read off unshifted words. -/
theorem unshifted (x : BitVec 32) : x = x <<< (6 - 2 * (3 : Fin 4).val) := by
  rw [show 6 - 2 * (3 : Fin 4).val = 0 from rfl]
  simp

/-- The tile of fields 0 and 1 of a group. -/
theorem rhs0V_apply (w : Vec Ideal S256x128 .i8) (k n : Fin 256) :
    rhs0V (F := Ideal) w (Mxu.ix k n)
      = codeVal ⟨n.val / 128, by omega⟩ (w (Mxu.ix ⟨2 * (k.val % 128) + k.val / 128, by omega⟩ ⟨n.val % 128, by omega⟩)) := by
  refine (stack_cols (n := 128) _ _ _ k n).trans ?_
  by_cases hn : n.val < 128
  · rw [dif_pos hn, colV_apply w 0 _ _ (fun i => shlV_apply _ _ _ (by decide) (by decide) i) (fun i => shlV_apply _ _ _ (by decide) (by decide) i)]
    exact codeVal_congr w (by show 0 = n.val / 128; omega) rfl (by show n.val = n.val % 128; omega)
  · rw [dif_neg hn, colV_apply w 1 _ _ (fun i => shlV_apply _ _ _ (by decide) (by decide) i) (fun i => shlV_apply _ _ _ (by decide) (by decide) i)]
    exact codeVal_congr w (by show 1 = n.val / 128; omega) rfl (by show n.val - 128 = n.val % 128; omega)

/-- The tile of fields 2 and 3 of a group. -/
theorem rhs1V_apply (w : Vec Ideal S256x128 .i8) (k n : Fin 256) :
    rhs1V (F := Ideal) w (Mxu.ix k n)
      = codeVal ⟨2 + n.val / 128, by omega⟩ (w (Mxu.ix ⟨2 * (k.val % 128) + k.val / 128, by omega⟩ ⟨n.val % 128, by omega⟩)) := by
  refine (stack_cols (n := 128) _ _ _ k n).trans ?_
  by_cases hn : n.val < 128
  · rw [dif_pos hn, colV_apply w 2 _ _ (fun i => shlV_apply _ _ _ (by decide) (by decide) i) (fun i => shlV_apply _ _ _ (by decide) (by decide) i)]
    exact codeVal_congr w (by show 2 = 2 + n.val / 128; omega) rfl (by show n.val = n.val % 128; omega)
  · rw [dif_neg hn, colV_apply w 3 _ _ (fun i => shlV_apply _ _ _ (by decide) (by decide) i) (fun i => unshifted _)]
    exact codeVal_congr w (by show 3 = 2 + n.val / 128; omega) rfl (by show n.val - 128 = n.val % 128; omega)

/-- Half a tile over zero rows, at an element. -/
theorem padV_apply (v : FVec Ideal S128x256 .bf16) (k n : Fin 256) :
    padV v (Mxu.ix k n) = if hk : k.val < 128 then v (Mxu.ix ⟨k.val, hk⟩ n) else 0 := by
  refine (stack_rows (n := 128) _ _ _ k n).trans ?_
  by_cases hk : k.val < 128
  · rw [dif_pos hk, dif_pos hk]
  · rw [dif_neg hk, dif_neg hk]
    exact Ideal.ofBits_zero_bf16

/-- The tile of fields 0 and 1 of the last group. -/
theorem rhs0TV_apply (w : Vec Ideal S128x128 .i8) (k n : Fin 256) (hk : k.val < 128) :
    rhs0TV (F := Ideal) w (Mxu.ix k n)
      = codeVal ⟨n.val / 128, by omega⟩ (w (Mxu.ix ⟨2 * (k.val % 64) + k.val / 64, by omega⟩ ⟨n.val % 128, by omega⟩)) := by
  unfold rhs0TV
  rw [padV_apply, dif_pos hk]
  refine (stack_cols (n := 128) _ _ _ _ n).trans ?_
  by_cases hn : n.val < 128
  · rw [dif_pos hn, colTV_apply w 0 _ _ (fun i => shlTV_apply _ _ _ (by decide) (by decide) i) (fun i => shlTV_apply _ _ _ (by decide) (by decide) i)]
    exact codeVal_congr w (by show 0 = n.val / 128; omega) rfl (by show n.val = n.val % 128; omega)
  · rw [dif_neg hn, colTV_apply w 1 _ _ (fun i => shlTV_apply _ _ _ (by decide) (by decide) i) (fun i => shlTV_apply _ _ _ (by decide) (by decide) i)]
    exact codeVal_congr w (by show 1 = n.val / 128; omega) rfl (by show n.val - 128 = n.val % 128; omega)

/-- The tile of fields 2 and 3 of the last group. -/
theorem rhs1TV_apply (w : Vec Ideal S128x128 .i8) (k n : Fin 256) (hk : k.val < 128) :
    rhs1TV (F := Ideal) w (Mxu.ix k n)
      = codeVal ⟨2 + n.val / 128, by omega⟩ (w (Mxu.ix ⟨2 * (k.val % 64) + k.val / 64, by omega⟩ ⟨n.val % 128, by omega⟩)) := by
  unfold rhs1TV
  rw [padV_apply, dif_pos hk]
  refine (stack_cols (n := 128) _ _ _ _ n).trans ?_
  by_cases hn : n.val < 128
  · rw [dif_pos hn, colTV_apply w 2 _ _ (fun i => shlTV_apply _ _ _ (by decide) (by decide) i) (fun i => shlTV_apply _ _ _ (by decide) (by decide) i)]
    exact codeVal_congr w (by show 2 = 2 + n.val / 128; omega) rfl (by show n.val = n.val % 128; omega)
  · rw [dif_neg hn, colTV_apply w 3 _ _ (fun i => shlTV_apply _ _ _ (by decide) (by decide) i) (fun i => unshifted _)]
    exact codeVal_congr w (by show 3 = 2 + n.val / 128; omega) rfl (by show n.val - 128 = n.val % 128; omega)

end Cert.KernelIdeal.Gen
-- ==== Proof.Sums.lean ====
module

public import proofs.«01_k».proof.Proof.Weights

/-! The accumulators after all the passes, as sums over the contracted axis. -/

@[expose] public section

set_option maxRecDepth 16384

noncomputable section

namespace Cert.KernelIdeal.Gen

open Idealize.ShloMosaic Idealize.ShloMosaic.TcCoe Idealize.ShloMosaic.Tactic
open Cert.KernelIdeal.Facts₀ Cert.KernelIdeal.Facts

/-- An element of a matrix depends only on the two numbers that place it. -/
theorem ix_congr {α : Type} {n d : Nat} (f : (⟨2, ![n, d]⟩ : Shape).Idx → α) {p p' : Fin n} {c c' : Fin d}
    (hp : p.val = p'.val) (hc : c.val = c'.val) : f (Mxu.ix p c) = f (Mxu.ix p' c') := by
  rw [Fin.ext hp, Fin.ext hc]

/-- A rectangle's element of a matrix. -/
theorem rect_ix {n d a b r q : Nat} (h : ∀ x, (![r, q] : Fin 2 → Nat) x + (![a, b] : Fin 2 → Nat) x ≤ (![n, d] : Fin 2 → Nat) x)
    (i : Fin a) (l : Fin b) (hi : r + i.val < n) (hl : q + l.val < d) :
    (Rect.unit (s := (⟨2, ![n, d]⟩ : Shape)) ![r, q] ![a, b] h).toLoadRect.idx (Mxu.ix i l) = Mxu.ix ⟨r + i.val, hi⟩ ⟨q + l.val, hl⟩ := by
  funext x
  match x with
  | ⟨0, _⟩ => exact Fin.ext (by show r + 1 * i.val = r + i.val; omega)
  | ⟨1, _⟩ => exact Fin.ext (by show q + 1 * l.val = q + l.val; omega)

/-- A slab of x, at an element. -/
theorem slabX_apply (X : Vec Ideal S192x9856 .bf16) (o : Nat) (h : o + 128 ≤ 9856) (i : Fin 192) (l : Fin 128) :
    slabX X o h (Mxu.ix i l) = X (Mxu.ix i ⟨o + l.val, by omega⟩) := by
  refine (congrArg X (rect_ix _ i l (by omega) (by omega))).trans ?_
  exact ix_congr (n := 192) (d := 9856) X (Nat.zero_add _) rfl

/-- A slab of the scratch, at an element. -/
theorem slabP_apply (P : Vec Ideal S192x9984 .bf16) (o : Nat) (h : o + 256 ≤ 9984) (i : Fin 192) (l : Fin 256) :
    slabP P o h (Mxu.ix i l) = P (Mxu.ix i ⟨o + l.val, by omega⟩) := by
  refine (congrArg P (rect_ix _ i l (by omega) (by omega))).trans ?_
  exact ix_congr (n := 192) (d := 9984) P (Nat.zero_add _) rfl

/-- A slab of the weight block, at an element. -/
theorem slabW_apply (W : Vec Ideal S9856x128 .i8) (o : Nat) (h : o + 256 ≤ 9856) (i : Fin 256) (l : Fin 128) :
    slabW W o h (Mxu.ix i l) = W (Mxu.ix ⟨o + i.val, by omega⟩ l) := by
  refine (congrArg W (rect_ix _ i l (by omega) (by omega))).trans ?_
  exact ix_congr (n := 9856) (d := 128) W rfl (Nat.zero_add _)

/-- The last slab of the weight block, at an element. -/
theorem slabWT_apply (W : Vec Ideal S9856x128 .i8) (i l : Fin 128) :
    slabWT W (Mxu.ix i l) = W (Mxu.ix ⟨9728 + i.val, by omega⟩ l) := by
  refine (congrArg W (rect_ix _ i l (by omega) (by omega))).trans ?_
  exact ix_congr (n := 9856) (d := 128) W rfl (Nat.zero_add _)

/-- The permuted activations in a group: column `k` is source column `2 (k % 128) + k / 128`. -/
theorem permX_group (X : Vec Ideal S192x9856 .bf16) (i : Fin 192) (g : Nat) (hg : g < 38) (k : Fin 256) :
    permX X (Mxu.ix i ⟨256 * g + k.val, by omega⟩)
      = X (Mxu.ix i ⟨256 * g + (2 * (k.val % 128) + k.val / 128), by omega⟩) := by
  have hk := k.isLt
  unfold permX
  have hy : 256 * g + k.val < 9728 := by omega
  refine (dif_pos hy).trans ?_
  refine (permV_apply ⟨(256 * g + k.val) % 256 / 128, by omega⟩ _ _ i ⟨(256 * g + k.val) % 128, by omega⟩).trans ?_
  by_cases hl : (256 * g + k.val) % 128 < 64
  · refine (if_pos hl).trans ?_
    rw [slabX_apply]
    exact ix_congr (n := 192) (d := 9856) X rfl (by
      show 256 * ((256 * g + k.val) / 256) + ((2 * ((256 * g + k.val) % 128)) % 128 + (256 * g + k.val) % 256 / 128) = _
      show _ = 256 * g + (2 * (k.val % 128) + k.val / 128)
      omega)
  · refine (if_neg hl).trans ?_
    rw [slabX_apply]
    exact ix_congr (n := 192) (d := 9856) X rfl (by
      show 256 * ((256 * g + k.val) / 256) + 128 + ((2 * ((256 * g + k.val) % 128)) % 128 + (256 * g + k.val) % 256 / 128) = _
      show _ = 256 * g + (2 * (k.val % 128) + k.val / 128)
      omega)

/-- The permuted activations in the last group's first half. -/
theorem permX_tail (X : Vec Ideal S192x9856 .bf16) (i : Fin 192) (k : Fin 256) (hk : k.val < 128) :
    permX X (Mxu.ix i ⟨9728 + k.val, by omega⟩) = X (Mxu.ix i ⟨9728 + (2 * (k.val % 64) + k.val / 64), by omega⟩) := by
  unfold permX
  refine (dif_neg (show ¬ 9728 + k.val < 9728 by omega)).trans ?_
  refine (if_pos (show 9728 + k.val < 9856 by omega)).trans ?_
  refine (permTailV_apply _ i ⟨(9728 + k.val) % 128, by omega⟩).trans ?_
  rw [slabX_apply]
  exact ix_congr (n := 192) (d := 9856) X rfl (by
    show 9728 + (2 * ((9728 + k.val) % 128 % 64) + (9728 + k.val) % 128 / 64) = 9728 + (2 * (k.val % 64) + k.val / 64)
    omega)

/-- The permuted activations past the last source column. -/
theorem permX_zero (X : Vec Ideal S192x9856 .bf16) (i : Fin 192) (k : Fin 256) (hk : ¬ k.val < 128) :
    permX X (Mxu.ix i ⟨9728 + k.val, by omega⟩) = 0 := by
  unfold permX
  refine (dif_neg (show ¬ 9728 + k.val < 9728 by omega)).trans ?_
  refine (if_neg (show ¬ 9728 + k.val < 9856 by omega)).trans ?_
  exact zerosV_apply _

/-- One product of the contraction, and zero past its end. -/
def term (X : Vec Ideal S192x9856 .bf16) (W : Vec Ideal S9856x128 .i8) (i : Fin 192) (j : Fin 4) (c : Fin 128) (k : Nat) : EReal :=
  if h : k < 9856 then X (Mxu.ix i ⟨k, h⟩) * codeVal j (W (Mxu.ix ⟨k, h⟩ c)) else 0

/-- The term of a source row inside the array. -/
theorem term_of_lt (X : Vec Ideal S192x9856 .bf16) (W : Vec Ideal S9856x128 .i8) (i : Fin 192) (j : Fin 4) (c : Fin 128) (k : Nat) (h : k < 9856) :
    term X W i j c k = X (Mxu.ix i ⟨k, h⟩) * codeVal j (W (Mxu.ix ⟨k, h⟩ c)) := dif_pos h

/-- Summing in the kernel's order is summing in order. -/
theorem sum_interleave (m : Nat) (f : Nat → EReal) : ∑ k : Fin (2 * m), f (2 * (k.val % m) + k.val / m) = ∑ k ∈ Finset.range (2 * m), f k := by
  rw [Finset.sum_range]
  have hm : ∀ k : Fin (2 * m), 0 < m := fun k => by have := k.isLt; omega
  have hd : ∀ k : Fin (2 * m), k.val / m < 2 := fun k => Nat.div_lt_of_lt_mul (k.isLt.trans_eq (Nat.mul_comm _ _))
  let e : Fin (2 * m) → Fin (2 * m) := fun k => ⟨2 * (k.val % m) + k.val / m, by
    have h1 := hd k
    have h2 := Nat.mod_lt k.val (hm k)
    omega⟩
  have he : Function.Injective e := by
    intro a b hab
    have h := congrArg Fin.val hab
    have h' : 2 * (a.val % m) + a.val / m = 2 * (b.val % m) + b.val / m := h
    have ha := hd a
    have hb := hd b
    have hs : ∀ x y x' y' : Nat, 2 * x + y = 2 * x' + y' → y < 2 → y' < 2 → y = y' ∧ x = x' := by omega
    obtain ⟨h1, h2⟩ := hs _ _ _ _ h' ha hb
    exact Fin.ext (by rw [← Nat.div_add_mod a.val m, ← Nat.div_add_mod b.val m, h1, h2])
  exact Fintype.sum_bijective e (Finite.injective_iff_bijective.mp he) _ _ fun _ => rfl

/-- A pass of a tile, element by element. -/
theorem pass_apply (x : FVec Ideal (Mxu.STile 192) .bf16) (v : FVec Ideal (Mxu.STile 256) .bf16) (i : Fin 192) (n : Fin 256) :
    (⟨.bf16, false, v⟩ : Mxu.Staged Ideal).pass x (Mxu.ix i n) = ∑ k : Fin 256, x (Mxu.ix i k) * v (Mxu.ix k n) := by
  have e := Ideal.matmul_plain_apply none x v (fun _ => 0) i n
  rw [zero_add] at e
  simp only [ix_eq]
  refine Eq.trans ?_ e
  rw [Ideal.matmul_apply]
  exact (zero_add _).symm

/-- A pass adds its products to the accumulator of its unit: rows not live hold zero. -/
theorem read_push {u : Mxu Ideal} (hu : Calm u) (q r : Fin 2) (v : FVec Ideal (Mxu.STile 256) .bf16) (x : FVec Ideal (Mxu.STile 192) .bf16)
    (i : Fin 192) (n : Fin 256) :
    (Mxu.pushAcc q r false 0 fits_0_192 u v x).read q 0 fits_0_192 (Mxu.ix i n)
      = u.read q 0 fits_0_192 (Mxu.ix i n) + ∑ k : Fin 256, x (Mxu.ix i k) * v (Mxu.ix k n) := by
  unfold Mxu.pushAcc
  rw [Mxu.read_accLhs]
  have hs : (u.pushed q r false v).staged q r = ⟨.bf16, false, v⟩ := by
    unfold Mxu.staged
    rw [Mxu.reg_pushed_of_none _ _ _ _ _ (hu.reg q r)]
    rfl
  rw [hs, Mxu.read_pushed, Mxu.live_pushed]
  show Mxu.deposit (u.live q (Mxu.row fits_0_192 i)) (u.read q 0 fits_0_192 (Mxu.ix i n)) _ = _
  rw [pass_apply]
  cases hl : u.live q (Mxu.row fits_0_192 i)
  · have hc : u.read q 0 fits_0_192 (Mxu.ix i n) = 0 := (u.clean q _ n hl).trans Ideal.ofBits_zero_f32
    rw [hc, zero_add]
    rfl
  · rfl

/-- A pass leaves the other unit's accumulator. -/
theorem read_push_ne (u : Mxu Ideal) (q q' r : Fin 2) (hq : q' ≠ q) (v : FVec Ideal (Mxu.STile 256) .bf16) (x : FVec Ideal (Mxu.STile 192) .bf16) :
    (Mxu.pushAcc q r false 0 fits_0_192 u v x).read q' 0 fits_0_192 = u.read q' 0 fits_0_192 := by
  unfold Mxu.pushAcc
  rw [Mxu.read_accLhs_ne _ _ _ _ _ _ _ _ _ (Or.inl hq), Mxu.read_pushed]

/-- What a group's pass adds, from the tile's values. -/
theorem group_sum (X : Vec Ideal S192x9856 .bf16) (W : Vec Ideal S9856x128 .i8) (g : Nat) (hg : g < 38) (i : Fin 192) (n : Fin 256) (j : Fin 4)
    (v : FVec Ideal (Mxu.STile 256) .bf16)
    (hv : ∀ k : Fin 256, v (Mxu.ix k n) = codeVal j (slabW W (256 * g) (by omega) (Mxu.ix ⟨2 * (k.val % 128) + k.val / 128, by omega⟩ ⟨n.val % 128, by omega⟩))) :
    (∑ k : Fin 256, (slabP (permX X) (256 * g) (by omega) : FVec Ideal S192x256 .bf16) (Mxu.ix i k) * v (Mxu.ix k n))
      = ∑ k ∈ Finset.range 256, term X W i j ⟨n.val % 128, by omega⟩ (256 * g + k) := by
  rw [← sum_interleave 128 fun k => term X W i j ⟨n.val % 128, by omega⟩ (256 * g + k)]
  refine Finset.sum_congr rfl fun k _ => ?_
  have hk := k.isLt
  rw [hv k, slabW_apply]
  refine (congrArg (· * _) ((slabP_apply _ _ _ i k).trans (permX_group X i g hg k))).trans ?_
  exact (term_of_lt X W i j _ _ (show 256 * g + (2 * (k.val % 128) + k.val / 128) < 9856 by omega)).symm

/-- What the last group's pass adds, from the tile's values. -/
theorem tail_sum (X : Vec Ideal S192x9856 .bf16) (W : Vec Ideal S9856x128 .i8) (i : Fin 192) (n : Fin 256) (j : Fin 4)
    (v : FVec Ideal (Mxu.STile 256) .bf16)
    (hv : ∀ (k : Fin 256) (hk : k.val < 128), v (Mxu.ix k n) = codeVal j (slabWT W (Mxu.ix ⟨2 * (k.val % 64) + k.val / 64, by omega⟩ ⟨n.val % 128, by omega⟩))) :
    (∑ k : Fin 256, (slabP (permX X) 9728 (by omega) : FVec Ideal S192x256 .bf16) (Mxu.ix i k) * v (Mxu.ix k n))
      = ∑ k ∈ Finset.range 128, term X W i j ⟨n.val % 128, by omega⟩ (9728 + k) := by
  rw [← sum_interleave 64 fun k => term X W i j ⟨n.val % 128, by omega⟩ (9728 + k)]
  refine (Fin.sum_univ_add (a := 128) (b := 128) _).trans ?_
  refine (congrArg₂ (· + ·) (Finset.sum_congr rfl fun k _ => ?_) (Finset.sum_eq_zero fun k _ => ?_)).trans (add_zero _)
  · have hk := k.isLt
    have h1 := permX_tail X i (Fin.castAdd 128 k) hk
    rw [hv (Fin.castAdd 128 k) hk, slabWT_apply]
    refine (congrArg (· * _) ((slabP_apply _ _ _ i _).trans h1)).trans ?_
    exact (term_of_lt X W i j _ _ (show 9728 + (2 * (k.val % 64) + k.val / 64) < 9856 by omega)).symm
  · have h1 := permX_zero X i (Fin.natAdd 128 k) (by show ¬ 128 + k.val < 128; omega)
    exact (congrArg (· * _) ((slabP_apply _ _ _ i _).trans h1)).trans (zero_mul _)

/-- Both accumulators hold the products of the first `n` source rows. -/
def Holds (X : Vec Ideal S192x9856 .bf16) (W : Vec Ideal S9856x128 .i8) (m : Nat) (u : Mxu Ideal) : Prop :=
  (∀ (i : Fin 192) (n : Fin 256), u.read 0 0 fits_0_192 (Mxu.ix i n)
      = ∑ k ∈ Finset.range m, term X W i ⟨n.val / 128, by omega⟩ ⟨n.val % 128, by omega⟩ k)
    ∧ ∀ (i : Fin 192) (n : Fin 256), u.read 1 0 fits_0_192 (Mxu.ix i n)
      = ∑ k ∈ Finset.range m, term X W i ⟨2 + n.val / 128, by omega⟩ ⟨n.val % 128, by omega⟩ k

/-- Before the first group both accumulators read as empty sums. -/
theorem holds_init (X : Vec Ideal S192x9856 .bf16) (W : Vec Ideal S9856x128 .i8) : Holds X W 0 Mxu.init :=
  ⟨fun i n => by rw [Finset.sum_range_zero]; exact Ideal.ofBits_zero_f32, fun i n => by rw [Finset.sum_range_zero]; exact Ideal.ofBits_zero_f32⟩

/-- A group's passes add the next 256 source rows. -/
theorem holds_step (X : Vec Ideal S192x9856 .bf16) (W : Vec Ideal S9856x128 .i8) (g : Nat) (hg : g < 38) {u : Mxu Ideal} (hu : Calm u)
    (h : Holds X W (256 * g) u) : Holds X W (256 * (g + 1)) (mxuStep W (permX X) g hg u) := by
  rw [show 256 * (g + 1) = 256 * g + 256 by omega]
  refine ⟨fun i n => ?_, fun i n => ?_⟩
  · rw [Finset.sum_range_add, ← h.1 i n, ← group_sum X W g hg i n _ (rhs0V (slabW W (256 * g) (by omega))) (fun k => rhs0V_apply _ k n)]
    unfold mxuStep
    exact (congrFun (read_push_ne _ 1 0 _ (by decide) _ _) _).trans (read_push hu 0 _ _ _ i n)
  · rw [Finset.sum_range_add, ← h.2 i n, ← group_sum X W g hg i n _ (rhs1V (slabW W (256 * g) (by omega))) (fun k => rhs1V_apply _ k n)]
    unfold mxuStep
    refine (read_push (calm_pushAcc hu _ _ _ _) 1 _ _ _ i n).trans ?_
    rw [read_push_ne _ 0 1 _ (by decide) _ _]

/-- After any number of groups the accumulators read as the sums over their source rows. -/
theorem holds_steps (X : Vec Ideal S192x9856 .bf16) (W : Vec Ideal S9856x128 .i8) :
    ∀ (n g : Nat) (h : g + n ≤ 38) (u : Mxu Ideal), Calm u → Holds X W (256 * g) u → Holds X W (256 * (g + n)) (mxuSteps W (permX X) n g h u)
  | 0, _, _, _, _, h => h
  | n + 1, g, hg, u, hu, h => by
    have e := holds_steps X W n (g + 1) (by omega) _ (calm_mxuStep W (permX X) g (by omega) hu) (holds_step X W g (by omega) hu h)
    exact Eq.mp (congrArg (fun t => Holds X W (256 * t) (mxuSteps W (permX X) n (g + 1) (by omega) (mxuStep W (permX X) g (by omega) u)))
      (show g + 1 + n = g + (n + 1) by omega)) e

/-- The last group's first weight tile, at an element of its first 128 rows. -/
theorem rhs0TV_tail (W : Vec Ideal S9856x128 .i8) (n : Fin 256) (k : Fin 256) (hk : k.val < 128) :
    rhs0TV (slabWT W) (Mxu.ix k n)
      = codeVal ⟨n.val / 128, by omega⟩ (slabWT W (Mxu.ix ⟨2 * (k.val % 64) + k.val / 64, by omega⟩ ⟨n.val % 128, by omega⟩)) :=
  rhs0TV_apply (slabWT W) k n hk

/-- The last group's second weight tile, at an element of its first 128 rows. -/
theorem rhs1TV_tail (W : Vec Ideal S9856x128 .i8) (n : Fin 256) (k : Fin 256) (hk : k.val < 128) :
    rhs1TV (slabWT W) (Mxu.ix k n)
      = codeVal ⟨2 + n.val / 128, by omega⟩ (slabWT W (Mxu.ix ⟨2 * (k.val % 64) + k.val / 64, by omega⟩ ⟨n.val % 128, by omega⟩)) :=
  rhs1TV_apply (slabWT W) k n hk

/-- The last group's passes add the last 128 source rows. -/
theorem holds_tail (X : Vec Ideal S192x9856 .bf16) (W : Vec Ideal S9856x128 .i8) {u : Mxu Ideal} (hu : Calm u)
    (h : Holds X W 9728 u) : Holds X W (9728 + 128) (mxuTail W (permX X) u) := by
  refine ⟨fun i n => ?_, fun i n => ?_⟩
  · unfold mxuTail
    rw [read_push_ne _ 1 0 _ (by decide) _ _]
    refine (read_push hu 0 _ _ _ i n).trans ?_
    exact (congrArg₂ (· + ·) (h.1 i n) (tail_sum X W i n ⟨n.val / 128, by omega⟩ (rhs0TV (slabWT W)) (rhs0TV_tail W n))).trans
      (Finset.sum_range_add _ 9728 128).symm
  · unfold mxuTail
    refine (read_push (calm_pushAcc hu _ _ _ _) 1 _ _ _ i n).trans ?_
    rw [read_push_ne _ 0 1 _ (by decide) _ _]
    exact (congrArg₂ (· + ·) (h.2 i n) (tail_sum X W i n ⟨2 + n.val / 128, by omega⟩ (rhs1TV (slabWT W)) (rhs1TV_tail W n))).trans
      (Finset.sum_range_add _ 9728 128).symm

/-- After all the passes the accumulators hold the whole contraction. -/
theorem holds_all (X : Vec Ideal S192x9856 .bf16) (W : Vec Ideal S9856x128 .i8) : Holds X W 9856 (mxuAll W (permX X)) :=
  holds_tail X W (calm_mxuSteps _ _ _ _ _ _ calm_init) (holds_steps X W 38 0 (by omega) _ calm_init (holds_init X W))

end Cert.KernelIdeal.Gen
-- ==== Proof.Out.lean ====
module

public import proofs.«01_k».proof.Proof.Sums
public import proofs.«01_k».proof.Proof.Region
public import Idealize.ShloMosaic.Lib.Pipeline.ValueKit.Geometry

/-! The output block at an element, and the array the blocks make up. -/

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)
open Cert.KernelIdeal.Facts₀ Cert.KernelIdeal.Facts

/-- One half, as the body spells it. -/
def half : EReal := Ideal.ofBits .f32 0x3F000000#32

/-- The left half of a scaled accumulator, at an element. -/
theorem leftV_apply (s : Ideal .f32) (a : FVec Ideal S192x256 .f32) (i : Fin 192) (q : Fin 128) :
    leftV (scaledV s a) (Mxu.ix i q) = a (Mxu.ix i ⟨q.val, by omega⟩) * (s * half) := by
  refine (extractStridedSlice_apply (s := S192x256) (t := S192x128) ![0, 0] (scaledV s a) slices_S192x256_o0_0_S192x128 (Mxu.ix i q) (Mxu.ix i ⟨q.val, by omega⟩) fun x => ?_)
  match x with
  | ⟨0, _⟩ => exact (Nat.zero_add _).symm
  | ⟨1, _⟩ => exact (Nat.zero_add _).symm

/-- The right half of a scaled accumulator, at an element. -/
theorem rightV_apply (s : Ideal .f32) (a : FVec Ideal S192x256 .f32) (i : Fin 192) (q : Fin 128) :
    rightV (scaledV s a) (Mxu.ix i q) = a (Mxu.ix i ⟨128 + q.val, by omega⟩) * (s * half) := by
  refine (extractStridedSlice_apply (s := S192x256) (t := S192x128) ![0, 128] (scaledV s a) slices_S192x256_o0_128_S192x128 (Mxu.ix i q) (Mxu.ix i ⟨128 + q.val, by omega⟩) fun x => ?_)
  match x with
  | ⟨0, _⟩ => exact (Nat.zero_add _).symm
  | ⟨1, _⟩ => rfl

/-- The output block at an element: column `c` is field `c % 4` of source column `c / 4`. -/
theorem blockOut_apply (s : Vec Ideal S1 .f32) (X : Vec Ideal S192x9856 .bf16) (W : Vec Ideal S9856x128 .i8) (i : Fin 192) (c : Fin 512) :
    blockOut s W (permX X) (Mxu.ix i c)
      = (∑ k ∈ Finset.range 9856, term X W i ⟨c.val % 4, by omega⟩ ⟨c.val / 4, by omega⟩ k) * (scaleOf s * half) := by
  have hc := c.isLt
  have h := holds_all X W
  unfold blockOut outBlk
  rw [Mxu.read_pop_ne _ _ _ _ _ _ _ (Or.inl (by decide))]
  refine (outV_apply ⟨c.val / 128, by omega⟩ _ _ _ _ i ⟨c.val % 128, by omega⟩).trans ?_
  have hq : (⟨32 * (c.val / 128) + c.val % 128 / 4, by omega⟩ : Fin 128) = ⟨c.val / 4, by omega⟩ := Fin.ext (by show 32 * (c.val / 128) + c.val % 128 / 4 = c.val / 4; omega)
  have hl : (⟨c.val % 128 % 4, by omega⟩ : Fin 4) = ⟨c.val % 4, by omega⟩ := Fin.ext (by show c.val % 128 % 4 = c.val % 4; omega)
  have hqlt : c.val / 4 < 128 := by omega
  generalize mxuAll W (permX X) = u at h
  show (![leftV _, rightV _, leftV _, rightV _] (⟨c.val % 128 % 4, _⟩ : Fin 4)) (Mxu.ix i ⟨32 * (c.val / 128) + c.val % 128 / 4, _⟩) = _
  rw [hq, hl]
  have key : ∀ (j : Fin 4) (q : Fin 128), (![leftV (scaledV (scaleOf s) (u.read 0 0 fits_0_192)), rightV (scaledV (scaleOf s) (u.read 0 0 fits_0_192)),
      leftV (scaledV (scaleOf s) (u.read 1 0 fits_0_192)), rightV (scaledV (scaleOf s) (u.read 1 0 fits_0_192))] j) (Mxu.ix i q)
        = (∑ k ∈ Finset.range 9856, term X W i j q k) * (scaleOf s * half) := by
    intro j q
    have hq := q.isLt
    have e0 : ∀ (a : Nat) (ha : a < 256) (j : Fin 4), a / 128 = j.val → a % 128 = q.val →
        (∑ k ∈ Finset.range 9856, term X W i ⟨a / 128, by omega⟩ ⟨a % 128, by omega⟩ k) = ∑ k ∈ Finset.range 9856, term X W i j q k := by
      intro a ha j h1 h2
      rw [show (⟨a / 128, by omega⟩ : Fin 4) = j from Fin.ext h1, show (⟨a % 128, by omega⟩ : Fin 128) = q from Fin.ext h2]
    have e1 : ∀ (a : Nat) (ha : a < 256) (j : Fin 4), 2 + a / 128 = j.val → a % 128 = q.val →
        (∑ k ∈ Finset.range 9856, term X W i ⟨2 + a / 128, by omega⟩ ⟨a % 128, by omega⟩ k) = ∑ k ∈ Finset.range 9856, term X W i j q k := by
      intro a ha j h1 h2
      rw [show (⟨2 + a / 128, by omega⟩ : Fin 4) = j from Fin.ext h1, show (⟨a % 128, by omega⟩ : Fin 128) = q from Fin.ext h2]
    match j with
    | ⟨0, _⟩ => exact (leftV_apply _ _ i q).trans (congrArg (· * _) ((h.1 i _).trans (e0 q.val (by omega) 0 (by show q.val / 128 = 0; omega) (by omega))))
    | ⟨1, _⟩ => exact (rightV_apply _ _ i q).trans (congrArg (· * _) ((h.1 i _).trans (e0 (128 + q.val) (by omega) 1 (by show (128 + q.val) / 128 = 1; omega) (by omega))))
    | ⟨2, _⟩ => exact (leftV_apply _ _ i q).trans (congrArg (· * _) ((h.2 i _).trans (e1 q.val (by omega) 2 (by show 2 + q.val / 128 = 2; omega) (by omega))))
    | ⟨3, _⟩ => exact (rightV_apply _ _ i q).trans (congrArg (· * _) ((h.2 i _).trans (e1 (128 + q.val) (by omega) 3 (by show 2 + (128 + q.val) / 128 = 3; omega) (by omega))))
  exact key _ _

end Cert.KernelIdeal.Gen
-- ==== Proof.Blocks.lean ====
module

public import proofs.«01_k».proof.Proof.Out
public import Idealize.ShloMosaic.Lib.Claim
public import Idealize.ShloMosaic.Lib.Pipeline.Value
public import Idealize.ShloMosaic.Lib.ValueIdx

/-! Where each point's blocks lie in their arrays, and the array the output blocks make up. -/

@[expose] public section

set_option maxRecDepth 16384

noncomputable section

namespace Cert.KernelIdeal.Gen

open Idealize.ShloMosaic Idealize.ShloMosaic.TcCoe Idealize.ShloMosaic.Tactic
open Idealize.ShloMosaic.Pipeline (Dat Cfg Window)
open Cert.KernelIdeal.Facts₀ Cert.KernelIdeal.Facts

variable (m : (ℓ : Loc nD τ sig) → Buf (Elt Ideal) ℓ)

/-- The scale window's block is the whole array. -/
theorem geom0 : ∀ t : Fin cfg0.N, (cfg0.win 0).index t 0 * 1 = 0 := by decide +kernel

/-- The activations window's block is the whole array. -/
theorem geom1 : ∀ t : Fin cfg0.N, win0_1.index t 0 * win0_1.size 0 = 0 ∧ win0_1.index t 1 * win0_1.size 1 = 0 := by decide +kernel

/-- The weight window's block: 128 columns, the last 32. -/
theorem geom2 : ∀ t : Fin cfg0.N, (win0_2.index t 0 * win0_2.size 0 = 0 ∧ win0_2.index t 1 * win0_2.size 1 = 128 * t.val)
    ∧ win0_2.xsize (grid0.coords t) 0 = 9856 ∧ win0_2.xsize (grid0.coords t) 1 = min 128 (4256 - 128 * t.val) := by decide +kernel

/-- The output window's block: 512 columns, the last 128. -/
theorem geom3 : ∀ t : Fin cfg0.N, (win0_3.index t 0 * win0_3.size 0 = 0 ∧ win0_3.index t 1 * win0_3.size 1 = 512 * t.val)
    ∧ win0_3.xsize (grid0.coords t) 0 = 192 ∧ win0_3.xsize (grid0.coords t) 1 = min 512 (17024 - 512 * t.val) := by decide +kernel

/-- The grid has 34 points. -/
theorem points_lt (t : Fin cfg0.N) : t.val < 34 := by
  have h : cfg0.N = 34 := by decide
  have := t.isLt
  omega

/-- The activations argument. -/
def argX (c : Dev nD) : Vec Ideal S192x1x9856 .bf16 := m ((c : Thread nD τ).loc main_arg0)

/-- The packed weights argument. -/
def argW (c : Dev nD) : Vec Ideal S9856x4256 .i8 := m ((c : Thread nD τ).loc main_arg1)

/-- The scale argument. -/
def argS (c : Dev nD) : Vec Ideal S_ .f32 := m ((c : Thread nD τ).loc main_arg2)

/-- The region finds the scale as one element. -/
theorem V_v0 (c : Dev nD) : V m c main_v0 = shapeCast S1 (argS m c) shapeCasts_S_S1 := by
  show StableHlo.after hostOps0 (fun b => m (c, b)) (Proc.devRef .tc main_v0) = _
  after_results
  rfl

/-- The region finds the activations as a matrix. -/
theorem V_v1 (c : Dev nD) : V m c main_v1 = shapeCast S192x9856 (argX m c) shapeCasts_S192x1x9856_S192x9856 := by
  show StableHlo.after hostOps0 (fun b => m (c, b)) (Proc.devRef .tc main_v1) = _
  after_results
  rfl

/-- The scale a point reads is the scale argument. -/
theorem scaleOf_sAt (c : Dev nD) (t : Fin cfg0.N) (z : S_.Idx) : scaleOf (sAt m c t) = argS m c z := by
  unfold scaleOf sAt iblk
  show V m c main_v0 _ = _
  rw [V_v0]
  unfold shapeCast
  exact congrArg _ (funext fun a => a.elim0)

/-- The activations a point reads, at an element. -/
theorem xAt_apply (c : Dev nD) (t : Fin cfg0.N) (i : Fin 192) (k : Fin 9856) :
    xAt m c t (Mxu.ix i k) = argX m c (ValueIdx.ix3 i (0 : Fin 1) k) := by
  unfold xAt iblk
  show V m c main_v1 (((View.whole main_v1).slice (win0_1.rect t)).emb (Mxu.ix i k)) = _
  have e : ((View.whole main_v1).slice (win0_1.rect t)).emb (Mxu.ix i k) = (Mxu.ix i k : S192x9856.Idx) := by
    funext a
    refine Fin.ext ((ValueKit.view_emb_slice_whole_unit_val main_v1 _ _ _ (Mxu.ix i k) a).trans ?_)
    match a with
    | ⟨0, _⟩ => exact (congrArg (· + i.val) (geom1 t).1).trans (Nat.zero_add _)
    | ⟨1, _⟩ => exact (congrArg (· + k.val) (geom1 t).2).trans (Nat.zero_add _)
  rw [e, V_v1]
  refine shapeCast_apply (s := S192x1x9856) (t := S192x9856) _ _ _ _ ?_
  rw [Shape.rowMajor_val_three, Shape.rowMajor_val_two]
  show (i.val * 1 + 0) * 9856 + k.val = i.val * 9856 + k.val
  omega

/-- The weight block at a point, as the transfer moves it. -/
theorem iblk2_apply (c : Dev nD) (t : Fin cfg0.N) (y : (win0_2.xblock (grid0.coords t)).Idx) (k : Fin 9856) (q : Fin 4256)
    (hk : (y 0).val = k.val) (hq : 128 * t.val + (y 1).val = q.val) : iblk m c 2 t y = argW m c (Mxu.ix k q) := by
  unfold iblk
  show V m c main_arg1 (((View.whole main_arg1).slice (win0_2.rect t)).emb y) = _
  have e : ((View.whole main_arg1).slice (win0_2.rect t)).emb y = (Mxu.ix k q : S9856x4256.Idx) := by
    funext a
    refine Fin.ext ((ValueKit.view_emb_slice_whole_unit_val main_arg1 _ _ _ y a).trans ?_)
    match a with
    | ⟨0, _⟩ => exact ((congrArg (· + (y 0).val) (geom2 t).1.1).trans (Nat.zero_add _)).trans hk
    | ⟨1, _⟩ => exact (congrArg (· + (y 1).val) (geom2 t).1.2).trans hq
  rw [e, V_main_arg1]
  rfl

/-- The weights a point reads, at an element inside the array. -/
theorem wAt_apply (c : Dev nD) (t : Fin cfg0.N) (d : Vec Ideal S9856x128 .i8) (k : Fin 9856) (q : Fin 128) (h : 128 * t.val + q.val < 4256) :
    wAt m c t d (Mxu.ix k q) = argW m c (Mxu.ix k ⟨128 * t.val + q.val, h⟩) := by
  have hm : win0_2.moved (grid0.coords t) (Mxu.ix k q) = true := by
    rw [Window.moved_iff]
    intro a
    match a with
    | ⟨0, _⟩ => exact k.isLt.trans_eq (geom2 t).2.1.symm
    | ⟨1, _⟩ => exact (show q.val < min 128 (4256 - 128 * t.val) by have := q.isLt; omega).trans_eq (geom2 t).2.2.symm
  unfold wAt
  show Window.fill win0_2 (grid0.coords t) d (iblk m c 2 t) (Mxu.ix k q) = _
  unfold Window.fill
  exact (dif_pos hm).trans (iblk2_apply m c t _ k ⟨128 * t.val + q.val, h⟩ rfl rfl)

/-- One product of the result's contraction. -/
def prodAt (x : Vec Ideal S192x1x9856 .bf16) (w : Vec Ideal S9856x4256 .i8) (i : Fin 192) (j : Fin 4) (q : Fin 4256) (k : Fin 9856) : EReal :=
  x (ValueIdx.ix3 i (0 : Fin 1) k) * codeVal j (w (Mxu.ix k q))

/-- The result array: column `y` is field `y % 4` of weight column `y / 4`. -/
def outArr (x : Vec Ideal S192x1x9856 .bf16) (w : Vec Ideal S9856x4256 .i8) (s : Vec Ideal S_ .f32) : Vec Ideal S192x17024 .bf16 := fun y =>
  (∑ k : Fin 9856, prodAt x w (y 0) ⟨(y 1).val % 4, Nat.mod_lt _ (by decide)⟩
      ⟨(y 1).val / 4, by have h : (y 1).val < 17024 := (y 1).isLt; omega⟩ k)
    * ((s ValueIdx.ix0 : EReal) * half)

/-- A point's output block is its part of the result array, whatever the weight buffer holds past the array's end. -/
theorem oAt_apply (c : Dev nD) (t : Fin cfg0.N) (d : Vec Ideal S9856x128 .i8) (i : Fin 192) (q : Fin 512) (h : 512 * t.val + q.val < 17024) :
    oAt m c t d (Mxu.ix i q) = outArr (argX m c) (argW m c) (argS m c) (Mxu.ix i ⟨512 * t.val + q.val, h⟩) := by
  have hq := q.isLt
  unfold oAt permOf
  rw [blockOut_apply, scaleOf_sAt m c t ValueIdx.ix0, Finset.sum_range]
  unfold outArr
  refine congrArg (· * _) (Finset.sum_congr rfl fun k _ => ?_)
  rw [term_of_lt _ _ _ _ _ _ k.isLt]
  rw [show (⟨k.val, k.isLt⟩ : Fin 9856) = k from rfl, xAt_apply, wAt_apply m c t d k ⟨q.val / 4, by omega⟩ (by show 128 * t.val + q.val / 4 < 4256; omega)]
  unfold prodAt
  refine congrArg₂ (· * ·) rfl (codeVal_congr (n := 9856) (d := 4256) _ ?_ rfl ?_)
  · show q.val % 4 = (512 * t.val + q.val) % 4
    omega
  · show 128 * t.val + q.val / 4 = (512 * t.val + q.val) / 4
    omega

/-- What a point writes back is its part of the result array. -/
theorem oAt_cut (c : Dev nD) (t : Fin cfg0.N) (d : Vec Ideal S9856x128 .i8) :
    (cfg0.win 3).cut (cfg0.grid.coords t) (oAt m c t d) = ((cfg0.win 3).blk t).view.read (Elt Ideal) (outArr (argX m c) (argW m c) (argS m c)) := by
  funext y
  have h0 : (y 0).val < 192 := (y 0).isLt.trans_eq (geom3 t).2.1
  have h1 : (y 1).val < min 512 (17024 - 512 * t.val) := (y 1).isLt.trans_eq (geom3 t).2.2
  have ht := points_lt t
  have e : (cfg0.win 3).xinj (cfg0.grid.coords t) y = (Mxu.ix ⟨(y 0).val, h0⟩ ⟨(y 1).val, by omega⟩ : S192x512.Idx) := by
    funext a
    match a with
    | ⟨0, _⟩ => rfl
    | ⟨1, _⟩ => rfl
  show oAt m c t d ((cfg0.win 3).xinj (cfg0.grid.coords t) y) = outArr (argX m c) (argW m c) (argS m c) (((View.whole main_v2).slice (win0_3.rect t)).emb y)
  rw [e, oAt_apply m c t d _ _ (show 512 * t.val + (y 1).val < 17024 by omega)]
  refine congrArg _ ?_
  funext a
  refine Fin.ext (Eq.trans ?_ (ValueKit.view_emb_slice_whole_unit_val main_v2 _ _ _ y a).symm)
  match a with
  | ⟨0, _⟩ => exact ((congrArg (· + (y 0).val) (geom3 t).1.1).trans (Nat.zero_add _)).symm
  | ⟨1, _⟩ => exact (congrArg (· + (y 1).val) (geom3 t).1.2).symm

/-- Every element of the result array lies in some point's block. -/
theorem covered (i : S192x17024.Idx) : ∃ t : Fin cfg0.N, (cfg0.win 3).flush t = true ∧ i ∈ ((cfg0.win 3).blk t).view.set := by
  have h0 : (i 0).val < 192 := (i 0).isLt
  have h1 : (i 1).val < 17024 := (i 1).isLt
  have hN : cfg0.N = 34 := by decide
  obtain ⟨t, ht⟩ : ∃ t : Fin cfg0.N, t.val = (i 1).val / 512 := ⟨⟨(i 1).val / 512, by omega⟩, rfl⟩
  refine ⟨t, flush0_3 t, ?_⟩
  show i ∈ ((View.whole main_v2).slice (win0_3.rect t)).set
  rw [View.set_slice_whole, Rect.mem_set_unit]
  have g := geom3 t
  have r0 : win0_3.index t 0 * win0_3.size 0 ≤ (i 0).val ∧ (i 0).val < win0_3.index t 0 * win0_3.size 0 + win0_3.xsize (grid0.coords t) 0 := by
    rw [g.1.1, g.2.1]; omega
  have r1 : win0_3.index t 1 * win0_3.size 1 ≤ (i 1).val ∧ (i 1).val < win0_3.index t 1 * win0_3.size 1 + win0_3.xsize (grid0.coords t) 1 := by
    rw [g.1.2, g.2.2, ht]; omega
  intro a
  match a with
  | ⟨0, _⟩ => exact r0
  | ⟨1, _⟩ => exact r1

end Cert.KernelIdeal.Gen
-- ==== Proof.Value.lean ====
module

public import proofs.«01_k».proof.Proof.Blocks
public import proofs.«01_k».proof.Proof.Frames

/-! The run with its result: the output array ends at the array of the blocks. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationLoose cellOf)
open Cert.KernelIdeal.Facts₀ Cert.KernelIdeal.Facts

local notation "𝕄" => MT nD τ sig Unit (Elt Ideal) ℕ (UR sig nD τ) ℕ

variable (m : (ℓ : Loc nD τ sig) → Buf (Elt Ideal) ℓ) (ρ : Dev nD → PrngReg)

/-- The output buffer after the body, as the loop describes it: the block where the transfer takes it, anything elsewhere. -/
theorem oAt_eq (c : Dev nD) (t : Fin cfg0.N) (d : Vec Ideal S9856x128 .i8) :
    oAt m c t d = (cfg0.win 3).fill (cfg0.grid.coords t) (oAt m c t d) ((cfg0.win 3).cut (cfg0.grid.coords t) ((dats m 0 c).after 3 t)) := by
  rw [after0_3]
  exact ((cfg0.win 3).fill_congr_cut (cfg0.grid.coords t) ((oAt_cut m c t d).trans (oAt_cut m c t _).symm)).symm

/-- What the loop asks before the body. -/
def bodyPreLoose (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d)))

/-- What the loop gives entails what the body asks. -/
theorem bodyPre_loose (c : Dev nD) (t : Fin cfg0.N) : bodyPreLoose m c t ⊢ bodyPre m c t := by
  unfold bodyPre bodyPreLoose
  iintro ⟨HΦ, Ho, H0, H1, H2, ⟨%d, H3⟩⟩
  isplitl [HΦ]; · iexact HΦ
  isplitl [Ho]; · iexact Ho
  isplitl [H0]; · iexact H0
  isplitl [H1]; · iexact H1
  isplitl [H2]; · iexact H2
  iexists _; iexact H3

/-- What the loop asks after it. -/
def bodyPostLoose (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ (∃ d, owns (c : Thread nD τ) (st0_2 t) fullShare ((cfg0.win 2).fill (cfg0.grid.coords t) d ((cfg0.win 2).cut (cfg0.grid.coords t) ((dats m 0 c).after 2 t))))
    ∗ (∃ d, owns (c : Thread nD τ) (st0_3 t) fullShare ((cfg0.win 3).fill (cfg0.grid.coords t) d ((cfg0.win 3).cut (cfg0.grid.coords t) ((dats m 0 c).after 3 t)))))

/-- What the body leaves entails what the loop asks. -/
theorem bodyPost_loose (c : Dev nD) (t : Fin cfg0.N) : bodyPost m c t ⊢ bodyPostLoose m c t := by
  unfold bodyPost bodyPostLoose
  iintro ⟨HΦ, Ho, H0, H1, ⟨%d, H2, H3⟩⟩
  isplitl [HΦ]; · iexact HΦ
  isplitl [Ho]; · iexact Ho
  isplitl [H0]; · iexact H0
  isplitl [H1]; · iexact H1
  isplitl [H2]
  · iexists d
    rw [← wAt_eq]
    iexact H2
  · iexists (oAt m c t d)
    rw [← oAt_eq]
    iexact H3

/-- The body's obligation. -/
theorem body_obligation (c : Dev nD) : BodyObligationLoose (dats (F := Ideal) m 0 c) (defs₀ (F := Ideal)) Variants.none () Set.univ := fun t => by
  rw [bigSep_W0, bigSep_W0, defs₀_row]
  exact triple_restated ((bodyPre_loose m c t).trans (sound_body m c t)) rfl .rfl fun _ => bodyPost_loose m c t

-- the run's implicit arguments are found by unifying its conclusion with this one, which takes unfolding plain
-- definitions in a metavariable's type
set_option backward.isDefEq.respectTransparency.types false in
/-- The run, every window followed. -/
theorem run_track : θ_run defs (onTc (τ := τ) (main (F := Ideal))) (s₀ m ρ)
    (fun r => Pipeline.FramePost cfgs (dats m) 0 (V m) r ∧ r.2.sem = fun _ => 0) :=
  Pipeline.θ_run_frame_track (Q' := _) cfgs (dats m) (0 : Fin 1) launch0 defs₀ Variants.none m ρ main
    (hbody := body_obligation m) (hshare := fun c => (dats m 0 c).share_full fun _ => rfl)
    (howed := fun _ _ => rfl) (V := V m) (hmain := hmain m Variants.none) (hA := A_eq m)
    (hin := Φ_in m) (hout := fun c => Φ_out m c _)

/-- The output array ends at the array of the blocks. -/
theorem final_out (c : Dev nD) : (dats m 0 c).arrAt 3 cfg0.N = outArr (argX m c) (argW m c) (argS m c) :=
  (dats m 0 c).arrAt_eq_of_cover 3 (outArr (argX m c) (argW m c) (argS m c))
    (fun t _ => by show (cfg0.win 3).cut (cfg0.grid.coords t) ((dats m 0 c).after 3 t) = _; rw [after0_3]; exact oAt_cut m c t _) covered

/-- The run's result: the output array and the arguments. -/
theorem run_value : θ_run defs (onTc (τ := τ) (main (F := Ideal))) ⟨m, fun _ => 0, ρ⟩ (fun r => ∀ c : Dev nD,
      r.2.mem ((c.tc : Thread nD τ).loc main_v2) = outArr (argX m c) (argW m c) (argS m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.1 c).1 3).trans (final_out m c),
      ((h.1 c).2 main_arg0 (Pipeline.mem_restRefs_of main_arg0 (by decide) (by decide))).trans (V_main_arg0 m c),
      ((h.1 c).1 2).trans (((dats m 0 c).arrAt_in 2 rfl _).trans ((A_eq m c 2).trans (V_main_arg1 m c))),
      ((h.1 c).2 main_arg2 (Pipeline.mem_restRefs_of main_arg2 (by decide) (by decide))).trans (V_main_arg2 m c)⟩) (run_track m ρ)

end Cert.KernelIdeal.Gen
-- ==== Proof.Reference.lean ====
module

public import proofs.«01_k».proof.Proof.Weights
public import proofs.«01_k».proof.Proof.Gen.ReferenceIdeal.Run
public import proofs.«01_k».proof.Pre_ternary_codes
public import Idealize.ShloMosaic.Lib.IdealHost
public import Idealize.ShloMosaic.Lib.Pipeline.Value

/-! The reference's result, element by element, and what the precondition says of each two-bit field of a weight byte:
under it the value of the pattern the kernel builds is twice the reference's weight. -/

@[expose] public section

set_option maxRecDepth 16384

noncomputable section

namespace Cert.RefValue

open Idealize.ShloMosaic Idealize.ShloMosaic.ValueIdx
open Cert.ReferenceIdeal Cert.ReferenceIdeal.Facts₀ Cert.ReferenceIdeal.Facts
open Cert.KernelIdeal.Gen (pat codeVal)

/-- Field `j` of a byte, as the reference extracts it: the byte widened, shifted right by `2 j` and masked by 3. -/
def code (j : Fin 4) (b : BitVec 8) : BitVec 32 := (b.setWidth 32 >>> (2 * j.val)) &&& 3#32

/-- The weight a field stands for in the reference: the field minus one. -/
def weight (j : Fin 4) (b : BitVec 8) : EReal := (((code j b).toNat : ℝ) : EReal) - 1

/-- A field below 3 is 0, 1 or 2, and the kernel's pattern for it is that of −2, −0 or +2. -/
theorem code_cases (j : Fin 4) (b : BitVec 8) (h : (code j b).ult 3#32 = true) :
    (code j b = 0#32 ∧ pat j b = 0xC000#16) ∨ (code j b = 1#32 ∧ pat j b = 0x8000#16) ∨ (code j b = 2#32 ∧ pat j b = 0x4000#16) := by
  revert j b
  decide +kernel

/-- The pattern `0xC000` is minus two. -/
theorem ofBits_neg_two : Ideal.ofBits .bf16 0xC000#16 = ((-(2 : ℝ) : ℝ) : EReal) := by
  simp [Ideal.ofBits, Ideal.ieee, -EReal.coe_mul, -EReal.coe_neg]; norm_num

/-- The pattern `0x8000` is zero. -/
theorem ofBits_neg_zero : Ideal.ofBits .bf16 0x8000#16 = ((0 : ℝ) : EReal) := by
  simp [Ideal.ofBits, Ideal.ieee]

/-- The pattern `0x4000` is two. -/
theorem ofBits_two : Ideal.ofBits .bf16 0x4000#16 = ((2 : ℝ) : EReal) := by
  simp [Ideal.ofBits, Ideal.ieee, -EReal.coe_mul]; norm_num

/-- The 32-bit pattern `0x3F000000` is one half. -/
theorem ofBits_half : Ideal.ofBits .f32 0x3F000000#32 = (((1 : ℝ) / 2 : ℝ) : EReal) := by
  simp [Ideal.ofBits, Ideal.ieee, -EReal.coe_mul]; norm_num

/-- Where a field is below 3, the value the kernel multiplies by is twice the reference's weight. -/
theorem codeVal_eq (j : Fin 4) (b : BitVec 8) (h : (code j b).ult 3#32 = true) :
    codeVal j b = ((2 : ℝ) : EReal) * weight j b := by
  have one : (1 : EReal) = ((1 : ℝ) : EReal) := rfl
  unfold codeVal weight
  rcases code_cases j b h with ⟨hc, hp⟩ | ⟨hc, hp⟩ | ⟨hc, hp⟩
  · rw [hc, hp, ofBits_neg_two, one, ← EReal.coe_sub, ← EReal.coe_mul]; norm_num
  · rw [hc, hp, ofBits_neg_zero, one, ← EReal.coe_sub, ← EReal.coe_mul]; norm_num
  · rw [hc, hp, ofBits_two, one, ← EReal.coe_sub, ← EReal.coe_mul]; norm_num

/-- A constant factor two comes out of a sum of products of extended reals. -/
theorem sum_two {n : Nat} (x t : Fin n → EReal) :
    ∑ k, x k * (((2 : ℝ) : EReal) * t k) = ((2 : ℝ) : EReal) * ∑ k, x k * t k := by
  have h2 : (0 : EReal) ≤ ((2 : ℝ) : EReal) := by exact_mod_cast (by norm_num : (0 : ℝ) ≤ 2)
  have key : ∀ s : Finset (Fin n), ∑ k ∈ s, x k * (((2 : ℝ) : EReal) * t k) = ((2 : ℝ) : EReal) * ∑ k ∈ s, x k * t k := by
    intro s
    induction s using Finset.induction_on with
    | empty => simp
    | insert a s ha ih =>
      rw [Finset.sum_insert ha, Finset.sum_insert ha, ih, EReal.left_distrib_of_nonneg_of_ne_top h2 (EReal.coe_ne_top _),
        mul_left_comm]
  exact key _

/-- Twice a sum, scaled by half the scale, is the sum scaled by the scale. -/
theorem two_half (S s : EReal) : (((2 : ℝ) : EReal) * S) * (s * (((1 : ℝ) / 2 : ℝ) : EReal)) = S * s := by
  have e : ((2 : ℝ) : EReal) * (((1 : ℝ) / 2 : ℝ) : EReal) = 1 := by
    rw [← EReal.coe_mul]; norm_num
  calc (((2 : ℝ) : EReal) * S) * (s * (((1 : ℝ) / 2 : ℝ) : EReal))
      = (((2 : ℝ) : EReal) * (((1 : ℝ) / 2 : ℝ) : EReal)) * (S * s) := by
        rw [mul_comm s, mul_mul_mul_comm]
    _ = S * s := by rw [e, one_mul]

/-! ## The reference's operations at an index -/

variable [Cert.ReferenceIdeal.Facts]

/-- The reference's weights for the shift `n`, as an array. -/
def refW (w : IVec S9856x4256 8) (n : BitVec 32) : FVec Ideal S9856x4256 .bf16 :=
  subf (uitofp .bf16 (andi (Host.shrui (extui 32 w natLt_8_32) (broadcastInDim S9856x4256 ![] bcast_S_S9856x4256 (constantI S_ 32 n)))
    (broadcastInDim S9856x4256 ![] bcast_S_S9856x4256 (constantI S_ 32 3#32))))
    (broadcastInDim S9856x4256 ![] bcast_S_S9856x4256 (constant S_ .bf16 0x3F80#16))

/-- The reference's scaled product for the shift `n`, with a last axis of one. -/
def refPiece (x : FVec Ideal S192x1x9856 .bf16) (w : IVec S9856x4256 8) (s : FVec Ideal S_ .f32) (n : BitVec 32) :
    FVec Ideal S192x1x4256x1 .f32 :=
  broadcastInDim S192x1x4256x1 ![0, 1, 2] bcast_S192x1x4256_S192x1x4256x1_0_1_2
    (mulf (Host.dotGeneral dot_S192x1x9856_S9856x4256_S192x1x4256_2_0_01_1_n_n none x (refW w n))
      (broadcastInDim S192x1x4256 ![] bcast_S_S192x1x4256 s))

/-- The four products side by side along a last axis of four. -/
def refCat (x : FVec Ideal S192x1x9856 .bf16) (w : IVec S9856x4256 8) (s : FVec Ideal S_ .f32) : FVec Ideal S192x1x4256x4 .f32 :=
  concatenate S192x1x4256x4 3 [⟨S192x1x4256x1, refPiece x w s 0#32⟩, ⟨S192x1x4256x1, refPiece x w s 2#32⟩,
    ⟨S192x1x4256x1, refPiece x w s 4#32⟩, ⟨S192x1x4256x1, refPiece x w s 6#32⟩]
    concatenates_S192x1x4256x1_S192x1x4256x1_S192x1x4256x1_S192x1x4256x1_S192x1x4256x4_d3

/-- The reference's result: the four products interleaved along the columns, rounded to 16 bits. -/
def refOut (x : FVec Ideal S192x1x9856 .bf16) (w : IVec S9856x4256 8) (s : FVec Ideal S_ .f32) : FVec Ideal S192x17024 .bf16 :=
  shapeCast S192x17024 (truncf .bf16 (shapeCast S192x1x17024 (refCat x w s) shapeCasts_S192x1x4256x4_S192x1x17024) bitsLt_bf16_f32)
    shapeCasts_S192x1x17024_S192x17024

/-- Each weight of the reference is its field minus one. -/
theorem refW_apply (w : IVec S9856x4256 8) (j : Fin 4) (i : S9856x4256.Idx) :
    refW w (BitVec.ofNat 32 (2 * j.val)) i = weight j (w i) := by
  have e : (Host.shrui (extui 32 w natLt_8_32) (broadcastInDim S9856x4256 ![] bcast_S_S9856x4256 (constantI S_ 32 (BitVec.ofNat 32 (2 * j.val)))) i)
      = (w i).setWidth 32 >>> (2 * j.val) := by
    match j with
    | ⟨0, _⟩ => rfl
    | ⟨1, _⟩ => rfl
    | ⟨2, _⟩ => rfl
    | ⟨3, _⟩ => rfl
  have e2 : andi (Host.shrui (extui 32 w natLt_8_32) (broadcastInDim S9856x4256 ![] bcast_S_S9856x4256 (constantI S_ 32 (BitVec.ofNat 32 (2 * j.val)))))
      (broadcastInDim S9856x4256 ![] bcast_S_S9856x4256 (constantI S_ 32 3#32)) i = code j (w i) :=
    congrArg (fun z : BitVec 32 => z &&& 3#32) e
  show (((andi (Host.shrui (extui 32 w natLt_8_32) (broadcastInDim S9856x4256 ![] bcast_S_S9856x4256 (constantI S_ 32 (BitVec.ofNat 32 (2 * j.val)))))
      (broadcastInDim S9856x4256 ![] bcast_S_S9856x4256 (constantI S_ 32 3#32)) i).toNat : ℝ) : EReal) - Ideal.ofBits .bf16 0x3F80#16 = _
  rw [e2, Ideal.ofBits_one_bf16]
  rfl

/-- The reference's product at an index: the sum over the contracted axis. -/
theorem refDot_apply (x : FVec Ideal S192x1x9856 .bf16) (W : FVec Ideal S9856x4256 .bf16) (i : Fin 192) (q : Fin 4256) :
    Host.dotGeneral dot_S192x1x9856_S9856x4256_S192x1x4256_2_0_01_1_n_n none x W (ix3 i (0 : Fin 1) q)
      = ∑ k : Fin 9856, x (ix3 i (0 : Fin 1) k) * W (ix2 k q) := by
  simp only [Host.dotGeneral]
  have hr : (dot_S192x1x9856_S9856x4256_S192x1x4256_2_0_01_1_n_n).contr.rank = 1 := rfl
  have hs : (dot_S192x1x9856_S9856x4256_S192x1x4256_2_0_01_1_n_n).contr.size ⟨0, by rw [hr]; omega⟩ = 9856 := rfl
  rw [Ideal.dotGeneral_apply, ← Equiv.sum_comp (contrEquiv1 _ 9856 hr hs).symm]
  refine Finset.sum_congr rfl fun k _ => ?_
  have hk := contrEquiv1_symm_val _ 9856 hr hs k
  have el : (dot_S192x1x9856_S9856x4256_S192x1x4256_2_0_01_1_n_n).lhsIdx (ix3 i (0 : Fin 1) q) ((contrEquiv1 _ 9856 hr hs).symm k)
      = ix3 i (0 : Fin 1) k := by
    funext a; apply Fin.ext
    match a with
    | ⟨0, _⟩ => rfl
    | ⟨1, _⟩ => rfl
    | ⟨2, _⟩ => exact hk
  have er : (dot_S192x1x9856_S9856x4256_S192x1x4256_2_0_01_1_n_n).rhsIdx (ix3 i (0 : Fin 1) q) ((contrEquiv1 _ 9856 hr hs).symm k)
      = ix2 k q := by
    funext a; apply Fin.ext
    match a with
    | ⟨0, _⟩ => exact hk
    | ⟨1, _⟩ => rfl
  rw [el, er]

/-- One product of the reference, at an index. -/
theorem refPiece_apply (x : FVec Ideal S192x1x9856 .bf16) (w : IVec S9856x4256 8) (s : FVec Ideal S_ .f32) (j : Fin 4)
    (i : Fin 192) (q : Fin 4256) :
    refPiece x w s (BitVec.ofNat 32 (2 * j.val)) (ix4 i (0 : Fin 1) q (0 : Fin 1))
      = (∑ k : Fin 9856, (x (ix3 i (0 : Fin 1) k) : EReal) * weight j (w (ix2 k q))) * (s ix0 : EReal) := by
  unfold refPiece
  rw [broadcastInDim_apply _ _ _ _ (ix3 i (0 : Fin 1) q) (by
    intro a
    match a with
    | ⟨0, _⟩ => rfl
    | ⟨1, _⟩ => rfl
    | ⟨2, _⟩ => rfl)]
  show Host.dotGeneral dot_S192x1x9856_S9856x4256_S192x1x4256_2_0_01_1_n_n none x (refW w (BitVec.ofNat 32 (2 * j.val))) (ix3 i (0 : Fin 1) q)
    * (broadcastInDim S192x1x4256 ![] bcast_S_S192x1x4256 s (ix3 i (0 : Fin 1) q) : EReal) = _
  rw [refDot_apply, broadcastInDim_scalar_apply]
  refine congrArg (fun z : EReal => z * (s ix0 : EReal)) (Finset.sum_congr rfl fun k _ => ?_)
  rw [refW_apply]

/-- The reference's result at an index: column `c` is column `c / 4` of the product for field `c % 4`. -/
theorem refOut_apply (x : FVec Ideal S192x1x9856 .bf16) (w : IVec S9856x4256 8) (s : FVec Ideal S_ .f32) (i : Fin 192) (c : Fin 17024) :
    refOut x w s (ix2 i c)
      = (∑ k : Fin 9856, (x (ix3 i (0 : Fin 1) k) : EReal)
          * weight ⟨c.val % 4, Nat.mod_lt _ (by omega)⟩ (w (ix2 k ⟨c.val / 4, by omega⟩))) * (s ix0 : EReal) := by
  unfold refOut
  rw [shapeCast_apply (s := S192x1x17024) (t := S192x17024) _ _ (ix2 i c) (ix3 i (0 : Fin 1) c) (by
    rw [Shape.rowMajor_val_two, Shape.rowMajor_val_three]
    show (i.val * 1 + 0) * 17024 + c.val = i.val * 17024 + c.val
    omega)]
  show shapeCast S192x1x17024 (refCat x w s) shapeCasts_S192x1x4256x4_S192x1x17024 (ix3 i (0 : Fin 1) c) = _
  rw [shapeCast_apply (s := S192x1x4256x4) (t := S192x1x17024) _ _ (ix3 i (0 : Fin 1) c)
    (ix4 i (0 : Fin 1) (⟨c.val / 4, by omega⟩ : Fin 4256) (⟨c.val % 4, Nat.mod_lt _ (by omega)⟩ : Fin 4)) (by
    rw [Shape.rowMajor_val_three, Shape.rowMajor_val_four]
    show ((i.val * 1 + 0) * 4256 + c.val / 4) * 4 + c.val % 4 = (i.val * 1 + 0) * 17024 + c.val
    omega)]
  refine Eq.trans ?_ (refPiece_apply x w s ⟨c.val % 4, Nat.mod_lt _ (by omega)⟩ i ⟨c.val / 4, by omega⟩)
  exact concatenate_ofFn_unit_apply (t := S192x1x4256x4) (s₁ := S192x1x4256x1) 3
    (fun n : Fin 4 => refPiece x w s (BitVec.ofNat 32 (2 * n.val)))
    concatenates_S192x1x4256x1_S192x1x4256x1_S192x1x4256x1_S192x1x4256x1_S192x1x4256x4_d3 rfl rfl _
    ⟨c.val % 4, Nat.mod_lt _ (by omega)⟩ rfl _ (by
      intro b hb
      match b, hb with
      | ⟨0, _⟩, _ => rfl
      | ⟨1, _⟩, _ => rfl
      | ⟨2, _⟩, _ => rfl
      | ⟨3, _⟩, hb => exact absurd rfl hb)

/-! ## The precondition at an index -/

/-- A conjunction of two one-bit words is one only if both are. -/
theorem and_one (a b : BitVec 1) (h : a &&& b = 1#1) : a = 1#1 ∧ b = 1#1 := by
  revert a b; decide

/-- A comparison's one-bit word is one only if the comparison holds. -/
theorem ofBool_one (a : Bool) (h : BitVec.ofBool a = 1#1) : a = true := by
  revert a; decide

/-- Under the precondition every field of every weight byte is below 3. -/
theorem code_lt [Cert.Pre_ternary_codes.Facts] (x : FVec Ideal S192x1x9856 .bf16) (w : IVec S9856x4256 8) (s : FVec Ideal S_ .f32)
    (h : Cert.Pre_ternary_codes.fn (F := Ideal) x w s = fun _ => 1#1) (j : Fin 4) (i : S9856x4256.Idx) :
    (code j (w i)).ult 3#32 = true := by
  have e : (((BitVec.ofBool ((code 0 (w i)).ult 3#32) &&& BitVec.ofBool ((code 1 (w i)).ult 3#32))
      &&& BitVec.ofBool ((code 2 (w i)).ult 3#32)) &&& BitVec.ofBool ((code 3 (w i)).ult 3#32)) = 1#1 := congrFun h i
  obtain ⟨e, h3⟩ := and_one _ _ e
  obtain ⟨e, h2⟩ := and_one _ _ e
  obtain ⟨h0, h1⟩ := and_one _ _ e
  match j with
  | ⟨0, _⟩ => exact ofBool_one _ h0
  | ⟨1, _⟩ => exact ofBool_one _ h1
  | ⟨2, _⟩ => exact ofBool_one _ h2
  | ⟨3, _⟩ => exact ofBool_one _ h3

end Cert.RefValue

end
-- ==== Proof.lean ====
module

public import proofs.«01_k».proof.Defs
public import proofs.«01_k».proof.Proof.BitsFrames
public import proofs.«01_k».proof.Proof.Frames
public import proofs.«01_k».proof.Proof.Value
public import proofs.«01_k».proof.Proof.Reference
public import proofs.«01_k».proof.Proof.Gen.ReferenceIdeal.Run
public import Idealize.ShloMosaic.Adequacy
public import Idealize.ShloMosaic.Init

@[expose] public section

noncomputable section

namespace Cert.Proof

open Idealize.ShloMosaic Idealize.SL.Sem
open Cert.RefValue (refOut refOut_apply weight codeVal_eq code_lt sum_two two_half ofBits_half)
open Cert.KernelIdeal.Gen (outArr prodAt half argX argW argS)

/-- The precondition's side conditions. -/
theorem pre_facts : Cert.Pre_ternary_codes.Facts := ⟨by decide, by decide⟩

/-- The kernel's frame. -/
theorem frame_p : Cert.quiescent_Kernel := fun m ρ _ => Cert.Kernel.Gen.frame m ρ

/-- The kernel's frame over the extended reals. -/
theorem frame_pi : Cert.quiescent_KernelIdeal := fun m ρ _ => Cert.KernelIdeal.Gen.frame m ρ

/-- The reference's frame: it declares no semaphore. -/
theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)

/-- The same frame of the kernel, under the precondition. -/
theorem frame_pi_pre [Cert.Pre_ternary_codes.Facts] : Cert.quiescent_KernelIdeal_pre_ternary_codes := fun m ρ _ => frame_pi m ρ trivial

/-- The same frame of the reference, under the precondition. -/
theorem frame_ri_pre [Cert.Pre_ternary_codes.Facts] : Cert.quiescent_ReferenceIdeal_pre_ternary_codes := fun m ρ _ => frame_ri m ρ trivial

/-- Under the precondition the kernel's array and the reference's are the same: each weight the kernel multiplies by is
    twice the reference's, and its scale is half the reference's. -/
theorem out_eq [Cert.Pre_ternary_codes.Facts] (x : FVec Ideal Cert.ReferenceIdeal.S192x1x9856 .bf16)
    (w : IVec Cert.ReferenceIdeal.S9856x4256 8) (s : FVec Ideal Cert.ReferenceIdeal.S_ .f32)
    (h : Cert.Pre_ternary_codes.fn (F := Ideal) x w s = fun _ => 1#1) : refOut x w s = outArr x w s := by
  have e : ∀ (i : Fin 192) (j : Fin 4) (q : Fin 4256), (∑ k : Fin 9856, prodAt x w i j q k)
      = ((2 : ℝ) : EReal) * ∑ k : Fin 9856, (x (ValueIdx.ix3 i (0 : Fin 1) k) : EReal) * weight j (w (ValueIdx.ix2 k q)) := by
    intro i j q
    rw [← sum_two]
    refine Finset.sum_congr rfl fun k _ => ?_
    unfold prodAt
    rw [Cert.KernelIdeal.Gen.ix_eq, codeVal_eq j _ (code_lt x w s h j (ValueIdx.ix2 k q))]
  have key : ∀ (i : Fin 192) (c : Fin 17024), refOut x w s (ValueIdx.ix2 i c) = outArr x w s (ValueIdx.ix2 i c) := by
    intro i c
    refine (refOut_apply x w s i c).trans ((two_half _ _).symm.trans ?_)
    refine congrArg₂ (fun a b : EReal => a * ((s ValueIdx.ix0 : EReal) * b)) ?_ ofBits_half.symm
    exact (e i ⟨c.val % 4, Nat.mod_lt _ (by omega)⟩ ⟨c.val / 4, by omega⟩).symm
  funext y
  have hy : y = ValueIdx.ix2 (y 0) (y 1) := by
    funext a
    match a with
    | ⟨0, _⟩ => rfl
    | ⟨1, _⟩ => rfl
  rw [hy]
  exact key (y 0) (y 1)

/-- Under the precondition the kernel and the reference both run, and end with the same result array. -/
theorem algebraic [Cert.Pre_ternary_codes.Facts] : Cert.algebraic_KernelIdeal_ReferenceIdeal_pre_ternary_codes := by
  intro m g m' g' hpre hin
  refine ⟨fun c => outArr (argX m c) (argW m c) (argS m c), Cert.KernelIdeal.Gen.run_value m g, ?_⟩
  refine (θ_run Cert.ReferenceIdeal.defs _ _).mono (fun r h c => ⟨(h c).1.trans ?_, (h c).2⟩) (Cert.ReferenceIdeal.Value.run (F := Ideal) m' g')
  obtain ⟨h0, h1, h2⟩ := hin c
  rw [h0, h1, h2]
  exact out_eq (argX m c) (argW m c) (argS m c) (hpre c)

/-- All the claims. -/
theorem claim : Cert.Claim :=
  haveI := pre_facts
  ⟨Cert.Kernel.Gen.facts, Cert.KernelIdeal.Gen.facts, Cert.ReferenceIdeal.Gen.facts, pre_facts, frame_p, frame_pi, frame_pi_pre,
    frame_ri, frame_ri_pre, trivial, algebraic⟩

end Cert.Proof

end
